-- ==== Defs.lean ====
def Pre_SwaPrompt (m : (ℓ : Loc Cert.SwaPrompt.nD Cert.SwaPrompt.τ Cert.SwaPrompt.sig) → Buf (Elt Bits) ℓ) : Prop :=
  True

def Pre_SwaPromptIdeal (m : (ℓ : Loc Cert.SwaPromptIdeal.nD Cert.SwaPromptIdeal.τ Cert.SwaPromptIdeal.sig) → Buf (Elt Ideal) ℓ) : Prop :=
  True

def Pre_SwaPromptIdeal_prompt_finite [hPre_prompt_finite : Cert.Pre_prompt_finite.Facts] (m : (ℓ : Loc Cert.SwaPromptIdeal.nD Cert.SwaPromptIdeal.τ Cert.SwaPromptIdeal.sig) → Buf (Elt Ideal) ℓ) : Prop :=
  ∀ c : Dev Cert.SwaPromptIdeal.nD,
    (Cert.Pre_prompt_finite.fn (F := Ideal) (m ((c.tc : Thread Cert.SwaPromptIdeal.nD Cert.SwaPromptIdeal.τ).loc Cert.SwaPromptIdeal.main_arg0)) (m ((c.tc : Thread Cert.SwaPromptIdeal.nD Cert.SwaPromptIdeal.τ).loc Cert.SwaPromptIdeal.main_arg1))).1 = (fun _ => 1#1)
    ∧ (Cert.Pre_prompt_finite.fn (F := Ideal) (m ((c.tc : Thread Cert.SwaPromptIdeal.nD Cert.SwaPromptIdeal.τ).loc Cert.SwaPromptIdeal.main_arg0)) (m ((c.tc : Thread Cert.SwaPromptIdeal.nD Cert.SwaPromptIdeal.τ).loc Cert.SwaPromptIdeal.main_arg1))).2 = (fun _ => 1#1)

def Pre_SwaPromptRefIdeal (m : (ℓ : Loc Cert.SwaPromptRefIdeal.nD Cert.SwaPromptRefIdeal.τ Cert.SwaPromptRefIdeal.sig) → Buf (Elt Ideal) ℓ) : Prop :=
  True

def Pre_SwaPromptRefIdeal_prompt_finite [hPre_prompt_finite : Cert.Pre_prompt_finite.Facts] (m : (ℓ : Loc Cert.SwaPromptRefIdeal.nD Cert.SwaPromptRefIdeal.τ Cert.SwaPromptRefIdeal.sig) → Buf (Elt Ideal) ℓ) : Prop :=
  ∀ c : Dev Cert.SwaPromptRefIdeal.nD,
    (Cert.Pre_prompt_finite.fn (F := Ideal) (m ((c.tc : Thread Cert.SwaPromptRefIdeal.nD Cert.SwaPromptRefIdeal.τ).loc Cert.SwaPromptRefIdeal.main_arg0)) (m ((c.tc : Thread Cert.SwaPromptRefIdeal.nD Cert.SwaPromptRefIdeal.τ).loc Cert.SwaPromptRefIdeal.main_arg1))).1 = (fun _ => 1#1)
    ∧ (Cert.Pre_prompt_finite.fn (F := Ideal) (m ((c.tc : Thread Cert.SwaPromptRefIdeal.nD Cert.SwaPromptRefIdeal.τ).loc Cert.SwaPromptRefIdeal.main_arg0)) (m ((c.tc : Thread Cert.SwaPromptRefIdeal.nD Cert.SwaPromptRefIdeal.τ).loc Cert.SwaPromptRefIdeal.main_arg1))).2 = (fun _ => 1#1)

def Pre_GateUp (m : (ℓ : Loc Cert.GateUp.nD Cert.GateUp.τ Cert.GateUp.sig) → Buf (Elt Bits) ℓ) : Prop :=
  True

def Pre_GateUpIdeal (m : (ℓ : Loc Cert.GateUpIdeal.nD Cert.GateUpIdeal.τ Cert.GateUpIdeal.sig) → Buf (Elt Ideal) ℓ) : Prop :=
  True

def Pre_GateUpRefIdeal (m : (ℓ : Loc Cert.GateUpRefIdeal.nD Cert.GateUpRefIdeal.τ Cert.GateUpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def Pre_Side (m : (ℓ : Loc Cert.Side.nD Cert.Side.τ Cert.Side.sig) → Buf (Elt Bits) ℓ) : Prop :=
  True

def Pre_SideIdeal (m : (ℓ : Loc Cert.SideIdeal.nD Cert.SideIdeal.τ Cert.SideIdeal.sig) → Buf (Elt Ideal) ℓ) : Prop :=
  True

def Pre_SideRefIdeal (m : (ℓ : Loc Cert.SideRefIdeal.nD Cert.SideRefIdeal.τ Cert.SideRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_YPrompt (m : (ℓ : Loc Cert.YPrompt.nD Cert.YPrompt.τ Cert.YPrompt.sig) → Buf (Elt Bits) ℓ) : Prop :=
  True

def Pre_YPromptIdeal (m : (ℓ : Loc Cert.YPromptIdeal.nD Cert.YPromptIdeal.τ Cert.YPromptIdeal.sig) → Buf (Elt Ideal) ℓ) : Prop :=
  True

def Pre_YPromptRefIdeal (m : (ℓ : Loc Cert.YPromptRefIdeal.nD Cert.YPromptRefIdeal.τ Cert.YPromptRefIdeal.sig) → Buf (Elt Ideal) ℓ) : Prop :=
  True

def Pre_YSample (m : (ℓ : Loc Cert.YSample.nD Cert.YSample.τ Cert.YSample.sig) → Buf (Elt Bits) ℓ) : Prop :=
  True

def Pre_YSampleIdeal (m : (ℓ : Loc Cert.YSampleIdeal.nD Cert.YSampleIdeal.τ Cert.YSampleIdeal.sig) → Buf (Elt Ideal) ℓ) : Prop :=
  True

def Pre_YSampleRefIdeal (m : (ℓ : Loc Cert.YSampleRefIdeal.nD Cert.YSampleRefIdeal.τ Cert.YSampleRefIdeal.sig) → Buf (Elt Ideal) ℓ) : Prop :=
  True

def quiescent_SwaPrompt [hSwaPrompt : Cert.SwaPrompt.Facts] : Prop :=
  ∀ (m : (ℓ : Loc Cert.SwaPrompt.nD Cert.SwaPrompt.τ Cert.SwaPrompt.sig) → Buf (Elt Bits) ℓ) (g : Dev Cert.SwaPrompt.nD → PrngReg), Pre_SwaPrompt m →
    θ_run (Cert.SwaPrompt.defs (F := Bits)) (onTc (τ := Cert.SwaPrompt.τ) (Cert.SwaPrompt.main (F := Bits))) ⟨m, fun _ => 0, g⟩ (fun r => (∀ c : Dev Cert.SwaPrompt.nD,
      r.2.mem ((c.tc : Thread Cert.SwaPrompt.nD Cert.SwaPrompt.τ).loc Cert.SwaPrompt.main_arg0) = m ((c.tc : Thread Cert.SwaPrompt.nD Cert.SwaPrompt.τ).loc Cert.SwaPrompt.main_arg0)
      ∧ r.2.mem ((c.tc : Thread Cert.SwaPrompt.nD Cert.SwaPrompt.τ).loc Cert.SwaPrompt.main_arg1) = m ((c.tc : Thread Cert.SwaPrompt.nD Cert.SwaPrompt.τ).loc Cert.SwaPrompt.main_arg1))
      ∧ r.2.sem = fun _ => 0)

def quiescent_SwaPromptIdeal [hSwaPromptIdeal : Cert.SwaPromptIdeal.Facts] : Prop :=
  ∀ (m : (ℓ : Loc Cert.SwaPromptIdeal.nD Cert.SwaPromptIdeal.τ Cert.SwaPromptIdeal.sig) → Buf (Elt Ideal) ℓ) (g : Dev Cert.SwaPromptIdeal.nD → PrngReg), Pre_SwaPromptIdeal m →
    θ_run (Cert.SwaPromptIdeal.defs (F := Ideal)) (onTc (τ := Cert.SwaPromptIdeal.τ) (Cert.SwaPromptIdeal.main (F := Ideal))) ⟨m, fun _ => 0, g⟩ (fun r => (∀ c : Dev Cert.SwaPromptIdeal.nD,
      r.2.mem ((c.tc : Thread Cert.SwaPromptIdeal.nD Cert.SwaPromptIdeal.τ).loc Cert.SwaPromptIdeal.main_arg0) = m ((c.tc : Thread Cert.SwaPromptIdeal.nD Cert.SwaPromptIdeal.τ).loc Cert.SwaPromptIdeal.main_arg0)
      ∧ r.2.mem ((c.tc : Thread Cert.SwaPromptIdeal.nD Cert.SwaPromptIdeal.τ).loc Cert.SwaPromptIdeal.main_arg1) = m ((c.tc : Thread Cert.SwaPromptIdeal.nD Cert.SwaPromptIdeal.τ).loc Cert.SwaPromptIdeal.main_arg1))
      ∧ r.2.sem = fun _ => 0)

def quiescent_SwaPromptIdeal_pre_prompt_finite [hSwaPromptIdeal : Cert.SwaPromptIdeal.Facts] [hPre_prompt_finite : Cert.Pre_prompt_finite.Facts] : Prop :=
  ∀ (m : (ℓ : Loc Cert.SwaPromptIdeal.nD Cert.SwaPromptIdeal.τ Cert.SwaPromptIdeal.sig) → Buf (Elt Ideal) ℓ) (g : Dev Cert.SwaPromptIdeal.nD → PrngReg), Pre_SwaPromptIdeal_prompt_finite m →
    θ_run (Cert.SwaPromptIdeal.defs (F := Ideal)) (onTc (τ := Cert.SwaPromptIdeal.τ) (Cert.SwaPromptIdeal.main (F := Ideal))) ⟨m, fun _ => 0, g⟩ (fun r => (∀ c : Dev Cert.SwaPromptIdeal.nD,
      r.2.mem ((c.tc : Thread Cert.SwaPromptIdeal.nD Cert.SwaPromptIdeal.τ).loc Cert.SwaPromptIdeal.main_arg0) = m ((c.tc : Thread Cert.SwaPromptIdeal.nD Cert.SwaPromptIdeal.τ).loc Cert.SwaPromptIdeal.main_arg0)
      ∧ r.2.mem ((c.tc : Thread Cert.SwaPromptIdeal.nD Cert.SwaPromptIdeal.τ).loc Cert.SwaPromptIdeal.main_arg1) = m ((c.tc : Thread Cert.SwaPromptIdeal.nD Cert.SwaPromptIdeal.τ).loc Cert.SwaPromptIdeal.main_arg1))
      ∧ r.2.sem = fun _ => 0)

def quiescent_SwaPromptRefIdeal [hSwaPromptRefIdeal : Cert.SwaPromptRefIdeal.Facts] : Prop :=
  ∀ (m : (ℓ : Loc Cert.SwaPromptRefIdeal.nD Cert.SwaPromptRefIdeal.τ Cert.SwaPromptRefIdeal.sig) → Buf (Elt Ideal) ℓ) (g : Dev Cert.SwaPromptRefIdeal.nD → PrngReg), Pre_SwaPromptRefIdeal m →
    θ_run (Cert.SwaPromptRefIdeal.defs (F := Ideal)) (onTc (τ := Cert.SwaPromptRefIdeal.τ) (Cert.SwaPromptRefIdeal.main (F := Ideal))) ⟨m, fun _ => 0, g⟩ (fun r => (∀ c : Dev Cert.SwaPromptRefIdeal.nD,
      r.2.mem ((c.tc : Thread Cert.SwaPromptRefIdeal.nD Cert.SwaPromptRefIdeal.τ).loc Cert.SwaPromptRefIdeal.main_arg0) = m ((c.tc : Thread Cert.SwaPromptRefIdeal.nD Cert.SwaPromptRefIdeal.τ).loc Cert.SwaPromptRefIdeal.main_arg0)
      ∧ r.2.mem ((c.tc : Thread Cert.SwaPromptRefIdeal.nD Cert.SwaPromptRefIdeal.τ).loc Cert.SwaPromptRefIdeal.main_arg1) = m ((c.tc : Thread Cert.SwaPromptRefIdeal.nD Cert.SwaPromptRefIdeal.τ).loc Cert.SwaPromptRefIdeal.main_arg1))
      ∧ r.2.sem = fun _ => 0)

def quiescent_SwaPromptRefIdeal_pre_prompt_finite [hSwaPromptRefIdeal : Cert.SwaPromptRefIdeal.Facts] [hPre_prompt_finite : Cert.Pre_prompt_finite.Facts] : Prop :=
  ∀ (m : (ℓ : Loc Cert.SwaPromptRefIdeal.nD Cert.SwaPromptRefIdeal.τ Cert.SwaPromptRefIdeal.sig) → Buf (Elt Ideal) ℓ) (g : Dev Cert.SwaPromptRefIdeal.nD → PrngReg), Pre_SwaPromptRefIdeal_prompt_finite m →
    θ_run (Cert.SwaPromptRefIdeal.defs (F := Ideal)) (onTc (τ := Cert.SwaPromptRefIdeal.τ) (Cert.SwaPromptRefIdeal.main (F := Ideal))) ⟨m, fun _ => 0, g⟩ (fun r => (∀ c : Dev Cert.SwaPromptRefIdeal.nD,
      r.2.mem ((c.tc : Thread Cert.SwaPromptRefIdeal.nD Cert.SwaPromptRefIdeal.τ).loc Cert.SwaPromptRefIdeal.main_arg0) = m ((c.tc : Thread Cert.SwaPromptRefIdeal.nD Cert.SwaPromptRefIdeal.τ).loc Cert.SwaPromptRefIdeal.main_arg0)
      ∧ r.2.mem ((c.tc : Thread Cert.SwaPromptRefIdeal.nD Cert.SwaPromptRefIdeal.τ).loc Cert.SwaPromptRefIdeal.main_arg1) = m ((c.tc : Thread Cert.SwaPromptRefIdeal.nD Cert.SwaPromptRefIdeal.τ).loc Cert.SwaPromptRefIdeal.main_arg1))
      ∧ r.2.sem = fun _ => 0)

def quiescent_GateUp [hGateUp : Cert.GateUp.Facts] : Prop :=
  ∀ (m : (ℓ : Loc Cert.GateUp.nD Cert.GateUp.τ Cert.GateUp.sig) → Buf (Elt Bits) ℓ) (g : Dev Cert.GateUp.nD → PrngReg), Pre_GateUp m →
    θ_run (Cert.GateUp.defs (F := Bits)) (onTc (τ := Cert.GateUp.τ) (Cert.GateUp.main (F := Bits))) ⟨m, fun _ => 0, g⟩ (fun r => (∀ c : Dev Cert.GateUp.nD,
      r.2.mem ((c.tc : Thread Cert.GateUp.nD Cert.GateUp.τ).loc Cert.GateUp.main_arg0) = m ((c.tc : Thread Cert.GateUp.nD Cert.GateUp.τ).loc Cert.GateUp.main_arg0)
      ∧ r.2.mem ((c.tc : Thread Cert.GateUp.nD Cert.GateUp.τ).loc Cert.GateUp.main_arg1) = m ((c.tc : Thread Cert.GateUp.nD Cert.GateUp.τ).loc Cert.GateUp.main_arg1)
      ∧ r.2.mem ((c.tc : Thread Cert.GateUp.nD Cert.GateUp.τ).loc Cert.GateUp.main_arg2) = m ((c.tc : Thread Cert.GateUp.nD Cert.GateUp.τ).loc Cert.GateUp.main_arg2)
      ∧ r.2.mem ((c.tc : Thread Cert.GateUp.nD Cert.GateUp.τ).loc Cert.GateUp.main_arg3) = m ((c.tc : Thread Cert.GateUp.nD Cert.GateUp.τ).loc Cert.GateUp.main_arg3))
      ∧ r.2.sem = fun _ => 0)

def quiescent_GateUpIdeal [hGateUpIdeal : Cert.GateUpIdeal.Facts] : Prop :=
  ∀ (m : (ℓ : Loc Cert.GateUpIdeal.nD Cert.GateUpIdeal.τ Cert.GateUpIdeal.sig) → Buf (Elt Ideal) ℓ) (g : Dev Cert.GateUpIdeal.nD → PrngReg), Pre_GateUpIdeal m →
    θ_run (Cert.GateUpIdeal.defs (F := Ideal)) (onTc (τ := Cert.GateUpIdeal.τ) (Cert.GateUpIdeal.main (F := Ideal))) ⟨m, fun _ => 0, g⟩ (fun r => (∀ c : Dev Cert.GateUpIdeal.nD,
      r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
      ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
      ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2)
      ∧ r.2.mem ((c.tc : Thread Cert.GateUpIdeal.nD Cert.GateUpIdeal.τ).loc Cert.GateUpIdeal.main_arg3) = m ((c.tc : Thread Cert.GateUpIdeal.nD Cert.GateUpIdeal.τ).loc Cert.GateUpIdeal.main_arg3))
      ∧ r.2.sem = fun _ => 0)

def quiescent_GateUpRefIdeal [hGateUpRefIdeal : Cert.GateUpRefIdeal.Facts] : Prop :=
  ∀ (m : (ℓ : Loc Cert.GateUpRefIdeal.nD Cert.GateUpRefIdeal.τ Cert.GateUpRefIdeal.sig) → Buf (Elt Ideal) ℓ) (g : Dev Cert.GateUpRefIdeal.nD → PrngReg), Pre_GateUpRefIdeal m →
    θ_run (Cert.GateUpRefIdeal.defs (F := Ideal)) (onTc (τ := Cert.GateUpRefIdeal.τ) (Cert.GateUpRefIdeal.main (F := Ideal))) ⟨m, fun _ => 0, g⟩ (fun r => (∀ c : Dev Cert.GateUpRefIdeal.nD,
      r.2.mem ((c.tc : Thread Cert.GateUpRefIdeal.nD Cert.GateUpRefIdeal.τ).loc Cert.GateUpRefIdeal.main_arg0) = m ((c.tc : Thread Cert.GateUpRefIdeal.nD Cert.GateUpRefIdeal.τ).loc Cert.GateUpRefIdeal.main_arg0)
      ∧ r.2.mem ((c.tc : Thread Cert.GateUpRefIdeal.nD Cert.GateUpRefIdeal.τ).loc Cert.GateUpRefIdeal.main_arg1) = m ((c.tc : Thread Cert.GateUpRefIdeal.nD Cert.GateUpRefIdeal.τ).loc Cert.GateUpRefIdeal.main_arg1)
      ∧ r.2.mem ((c.tc : Thread Cert.GateUpRefIdeal.nD Cert.GateUpRefIdeal.τ).loc Cert.GateUpRefIdeal.main_arg2) = m ((c.tc : Thread Cert.GateUpRefIdeal.nD Cert.GateUpRefIdeal.τ).loc Cert.GateUpRefIdeal.main_arg2)
      ∧ r.2.mem ((c.tc : Thread Cert.GateUpRefIdeal.nD Cert.GateUpRefIdeal.τ).loc Cert.GateUpRefIdeal.main_arg3) = m ((c.tc : Thread Cert.GateUpRefIdeal.nD Cert.GateUpRefIdeal.τ).loc Cert.GateUpRefIdeal.main_arg3))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2))
      ∧ r.2.sem = fun _ => 0)

def quiescent_Side [hSide : Cert.Side.Facts] : Prop :=
  ∀ (m : (ℓ : Loc Cert.Side.nD Cert.Side.τ Cert.Side.sig) → Buf (Elt Bits) ℓ) (g : Dev Cert.Side.nD → PrngReg), Pre_Side m →
    θ_run (Cert.Side.defs (F := Bits)) (onTc (τ := Cert.Side.τ) (Cert.Side.main (F := Bits))) ⟨m, fun _ => 0, g⟩ (fun r => (∀ c : Dev Cert.Side.nD,
      r.2.mem ((c.tc : Thread Cert.Side.nD Cert.Side.τ).loc Cert.Side.main_arg0) = m ((c.tc : Thread Cert.Side.nD Cert.Side.τ).loc Cert.Side.main_arg0)
      ∧ r.2.mem ((c.tc : Thread Cert.Side.nD Cert.Side.τ).loc Cert.Side.main_arg1) = m ((c.tc : Thread Cert.Side.nD Cert.Side.τ).loc Cert.Side.main_arg1)
      ∧ r.2.mem ((c.tc : Thread Cert.Side.nD Cert.Side.τ).loc Cert.Side.main_arg2) = m ((c.tc : Thread Cert.Side.nD Cert.Side.τ).loc Cert.Side.main_arg2)
      ∧ r.2.mem ((c.tc : Thread Cert.Side.nD Cert.Side.τ).loc Cert.Side.main_arg3) = m ((c.tc : Thread Cert.Side.nD Cert.Side.τ).loc Cert.Side.main_arg3)
      ∧ r.2.mem ((c.tc : Thread Cert.Side.nD Cert.Side.τ).loc Cert.Side.main_arg4) = m ((c.tc : Thread Cert.Side.nD Cert.Side.τ).loc Cert.Side.main_arg4))
      ∧ r.2.sem = fun _ => 0)

def quiescent_SideIdeal [hSideIdeal : Cert.SideIdeal.Facts] : Prop :=
  ∀ (m : (ℓ : Loc Cert.SideIdeal.nD Cert.SideIdeal.τ Cert.SideIdeal.sig) → Buf (Elt Ideal) ℓ) (g : Dev Cert.SideIdeal.nD → PrngReg), Pre_SideIdeal m →
    θ_run (Cert.SideIdeal.defs (F := Ideal)) (onTc (τ := Cert.SideIdeal.τ) (Cert.SideIdeal.main (F := Ideal))) ⟨m, fun _ => 0, g⟩ (fun r => (∀ c : Dev Cert.SideIdeal.nD,
      r.2.mem ((c.tc : Thread Cert.SideIdeal.nD Cert.SideIdeal.τ).loc Cert.SideIdeal.main_arg0) = m ((c.tc : Thread Cert.SideIdeal.nD Cert.SideIdeal.τ).loc Cert.SideIdeal.main_arg0)
      ∧ r.2.mem ((c.tc : Thread Cert.SideIdeal.nD Cert.SideIdeal.τ).loc Cert.SideIdeal.main_arg1) = m ((c.tc : Thread Cert.SideIdeal.nD Cert.SideIdeal.τ).loc Cert.SideIdeal.main_arg1)
      ∧ r.2.mem ((c.tc : Thread Cert.SideIdeal.nD Cert.SideIdeal.τ).loc Cert.SideIdeal.main_arg2) = m ((c.tc : Thread Cert.SideIdeal.nD Cert.SideIdeal.τ).loc Cert.SideIdeal.main_arg2)
      ∧ r.2.mem ((c.tc : Thread Cert.SideIdeal.nD Cert.SideIdeal.τ).loc Cert.SideIdeal.main_arg3) = m ((c.tc : Thread Cert.SideIdeal.nD Cert.SideIdeal.τ).loc Cert.SideIdeal.main_arg3)
      ∧ r.2.mem ((c.tc : Thread Cert.SideIdeal.nD Cert.SideIdeal.τ).loc Cert.SideIdeal.main_arg4) = m ((c.tc : Thread Cert.SideIdeal.nD Cert.SideIdeal.τ).loc Cert.SideIdeal.main_arg4))
      ∧ r.2.sem = fun _ => 0)

def quiescent_SideRefIdeal [hSideRefIdeal : Cert.SideRefIdeal.Facts] : Prop :=
  ∀ (m : (ℓ : Loc Cert.SideRefIdeal.nD Cert.SideRefIdeal.τ Cert.SideRefIdeal.sig) → Buf (Elt Ideal) ℓ) (g : Dev Cert.SideRefIdeal.nD → PrngReg), Pre_SideRefIdeal m →
    θ_run (Cert.SideRefIdeal.defs (F := Ideal)) (onTc (τ := Cert.SideRefIdeal.τ) (Cert.SideRefIdeal.main (F := Ideal))) ⟨m, fun _ => 0, g⟩ (fun r => (∀ c : Dev Cert.SideRefIdeal.nD,
      r.2.mem ((c.tc : Thread Cert.SideRefIdeal.nD Cert.SideRefIdeal.τ).loc Cert.SideRefIdeal.main_arg0) = m ((c.tc : Thread Cert.SideRefIdeal.nD Cert.SideRefIdeal.τ).loc Cert.SideRefIdeal.main_arg0)
      ∧ r.2.mem ((c.tc : Thread Cert.SideRefIdeal.nD Cert.SideRefIdeal.τ).loc Cert.SideRefIdeal.main_arg1) = m ((c.tc : Thread Cert.SideRefIdeal.nD Cert.SideRefIdeal.τ).loc Cert.SideRefIdeal.main_arg1)
      ∧ r.2.mem ((c.tc : Thread Cert.SideRefIdeal.nD Cert.SideRefIdeal.τ).loc Cert.SideRefIdeal.main_arg2) = m ((c.tc : Thread Cert.SideRefIdeal.nD Cert.SideRefIdeal.τ).loc Cert.SideRefIdeal.main_arg2)
      ∧ r.2.mem ((c.tc : Thread Cert.SideRefIdeal.nD Cert.SideRefIdeal.τ).loc Cert.SideRefIdeal.main_arg3) = m ((c.tc : Thread Cert.SideRefIdeal.nD Cert.SideRefIdeal.τ).loc Cert.SideRefIdeal.main_arg3)
      ∧ r.2.mem ((c.tc : Thread Cert.SideRefIdeal.nD Cert.SideRefIdeal.τ).loc Cert.SideRefIdeal.main_arg4) = m ((c.tc : Thread Cert.SideRefIdeal.nD Cert.SideRefIdeal.τ).loc Cert.SideRefIdeal.main_arg4))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1))
      ∧ r.2.sem = fun _ => 0)

def quiescent_YPrompt [hYPrompt : Cert.YPrompt.Facts] : Prop :=
  ∀ (m : (ℓ : Loc Cert.YPrompt.nD Cert.YPrompt.τ Cert.YPrompt.sig) → Buf (Elt Bits) ℓ) (g : Dev Cert.YPrompt.nD → PrngReg), Pre_YPrompt m →
    θ_run (Cert.YPrompt.defs (F := Bits)) (onTc (τ := Cert.YPrompt.τ) (Cert.YPrompt.main (F := Bits))) ⟨m, fun _ => 0, g⟩ (fun r => (∀ c : Dev Cert.YPrompt.nD,
      r.2.mem ((c.tc : Thread Cert.YPrompt.nD Cert.YPrompt.τ).loc Cert.YPrompt.main_arg0) = m ((c.tc : Thread Cert.YPrompt.nD Cert.YPrompt.τ).loc Cert.YPrompt.main_arg0)
      ∧ r.2.mem ((c.tc : Thread Cert.YPrompt.nD Cert.YPrompt.τ).loc Cert.YPrompt.main_arg1) = m ((c.tc : Thread Cert.YPrompt.nD Cert.YPrompt.τ).loc Cert.YPrompt.main_arg1))
      ∧ r.2.sem = fun _ => 0)

def quiescent_YPromptIdeal [hYPromptIdeal : Cert.YPromptIdeal.Facts] : Prop :=
  ∀ (m : (ℓ : Loc Cert.YPromptIdeal.nD Cert.YPromptIdeal.τ Cert.YPromptIdeal.sig) → Buf (Elt Ideal) ℓ) (g : Dev Cert.YPromptIdeal.nD → PrngReg), Pre_YPromptIdeal m →
    θ_run (Cert.YPromptIdeal.defs (F := Ideal)) (onTc (τ := Cert.YPromptIdeal.τ) (Cert.YPromptIdeal.main (F := Ideal))) ⟨m, fun _ => 0, g⟩ (fun r => (∀ c : Dev Cert.YPromptIdeal.nD,
      r.2.mem ((c.tc : Thread Cert.YPromptIdeal.nD Cert.YPromptIdeal.τ).loc Cert.YPromptIdeal.main_arg0) = m ((c.tc : Thread Cert.YPromptIdeal.nD Cert.YPromptIdeal.τ).loc Cert.YPromptIdeal.main_arg0)
      ∧ r.2.mem ((c.tc : Thread Cert.YPromptIdeal.nD Cert.YPromptIdeal.τ).loc Cert.YPromptIdeal.main_arg1) = m ((c.tc : Thread Cert.YPromptIdeal.nD Cert.YPromptIdeal.τ).loc Cert.YPromptIdeal.main_arg1))
      ∧ r.2.sem = fun _ => 0)

def quiescent_YPromptRefIdeal [hYPromptRefIdeal : Cert.YPromptRefIdeal.Facts] : Prop :=
  ∀ (m : (ℓ : Loc Cert.YPromptRefIdeal.nD Cert.YPromptRefIdeal.τ Cert.YPromptRefIdeal.sig) → Buf (Elt Ideal) ℓ) (g : Dev Cert.YPromptRefIdeal.nD → PrngReg), Pre_YPromptRefIdeal m →
    θ_run (Cert.YPromptRefIdeal.defs (F := Ideal)) (onTc (τ := Cert.YPromptRefIdeal.τ) (Cert.YPromptRefIdeal.main (F := Ideal))) ⟨m, fun _ => 0, g⟩ (fun r => (∀ c : Dev Cert.YPromptRefIdeal.nD,
      r.2.mem ((c.tc : Thread Cert.YPromptRefIdeal.nD Cert.YPromptRefIdeal.τ).loc Cert.YPromptRefIdeal.main_arg0) = m ((c.tc : Thread Cert.YPromptRefIdeal.nD Cert.YPromptRefIdeal.τ).loc Cert.YPromptRefIdeal.main_arg0)
      ∧ r.2.mem ((c.tc : Thread Cert.YPromptRefIdeal.nD Cert.YPromptRefIdeal.τ).loc Cert.YPromptRefIdeal.main_arg1) = m ((c.tc : Thread Cert.YPromptRefIdeal.nD Cert.YPromptRefIdeal.τ).loc Cert.YPromptRefIdeal.main_arg1))
      ∧ r.2.sem = fun _ => 0)

def quiescent_YSample [hYSample : Cert.YSample.Facts] : Prop :=
  ∀ (m : (ℓ : Loc Cert.YSample.nD Cert.YSample.τ Cert.YSample.sig) → Buf (Elt Bits) ℓ) (g : Dev Cert.YSample.nD → PrngReg), Pre_YSample m →
    θ_run (Cert.YSample.defs (F := Bits)) (onTc (τ := Cert.YSample.τ) (Cert.YSample.main (F := Bits))) ⟨m, fun _ => 0, g⟩ (fun r => (∀ c : Dev Cert.YSample.nD,
      r.2.mem ((c.tc : Thread Cert.YSample.nD Cert.YSample.τ).loc Cert.YSample.main_arg0) = m ((c.tc : Thread Cert.YSample.nD Cert.YSample.τ).loc Cert.YSample.main_arg0)
      ∧ r.2.mem ((c.tc : Thread Cert.YSample.nD Cert.YSample.τ).loc Cert.YSample.main_arg1) = m ((c.tc : Thread Cert.YSample.nD Cert.YSample.τ).loc Cert.YSample.main_arg1))
      ∧ r.2.sem = fun _ => 0)

def quiescent_YSampleIdeal [hYSampleIdeal : Cert.YSampleIdeal.Facts] : Prop :=
  ∀ (m : (ℓ : Loc Cert.YSampleIdeal.nD Cert.YSampleIdeal.τ Cert.YSampleIdeal.sig) → Buf (Elt Ideal) ℓ) (g : Dev Cert.YSampleIdeal.nD → PrngReg), Pre_YSampleIdeal m →
    θ_run (Cert.YSampleIdeal.defs (F := Ideal)) (onTc (τ := Cert.YSampleIdeal.τ) (Cert.YSampleIdeal.main (F := Ideal))) ⟨m, fun _ => 0, g⟩ (fun r => (∀ c : Dev Cert.YSampleIdeal.nD,
      r.2.mem ((c.tc : Thread Cert.YSampleIdeal.nD Cert.YSampleIdeal.τ).loc Cert.YSampleIdeal.main_arg0) = m ((c.tc : Thread Cert.YSampleIdeal.nD Cert.YSampleIdeal.τ).loc Cert.YSampleIdeal.main_arg0)
      ∧ r.2.mem ((c.tc : Thread Cert.YSampleIdeal.nD Cert.YSampleIdeal.τ).loc Cert.YSampleIdeal.main_arg1) = m ((c.tc : Thread Cert.YSampleIdeal.nD Cert.YSampleIdeal.τ).loc Cert.YSampleIdeal.main_arg1))
      ∧ r.2.sem = fun _ => 0)

def quiescent_YSampleRefIdeal [hYSampleRefIdeal : Cert.YSampleRefIdeal.Facts] : Prop :=
  ∀ (m : (ℓ : Loc Cert.YSampleRefIdeal.nD Cert.YSampleRefIdeal.τ Cert.YSampleRefIdeal.sig) → Buf (Elt Ideal) ℓ) (g : Dev Cert.YSampleRefIdeal.nD → PrngReg), Pre_YSampleRefIdeal m →
    θ_run (Cert.YSampleRefIdeal.defs (F := Ideal)) (onTc (τ := Cert.YSampleRefIdeal.τ) (Cert.YSampleRefIdeal.main (F := Ideal))) ⟨m, fun _ => 0, g⟩ (fun r => (∀ c : Dev Cert.YSampleRefIdeal.nD,
      r.2.mem ((c.tc : Thread Cert.YSampleRefIdeal.nD Cert.YSampleRefIdeal.τ).loc Cert.YSampleRefIdeal.main_arg0) = m ((c.tc : Thread Cert.YSampleRefIdeal.nD Cert.YSampleRefIdeal.τ).loc Cert.YSampleRefIdeal.main_arg0)
      ∧ r.2.mem ((c.tc : Thread Cert.YSampleRefIdeal.nD Cert.YSampleRefIdeal.τ).loc Cert.YSampleRefIdeal.main_arg1) = m ((c.tc : Thread Cert.YSampleRefIdeal.nD Cert.YSampleRefIdeal.τ).loc Cert.YSampleRefIdeal.main_arg1))
      ∧ r.2.sem = fun _ => 0)

def preserves_SwaPrompt_SwaPromptIdeal : Prop :=
  IdealRules.named_const.Statement Cert.SwaPromptIdeal.κ "scale_log2e" .f32 0x3E0293EE#32 (((11863283 / 134217728) * (Real.log 2)⁻¹ : ℝ) : EReal)
  ∧ IdealRules.named_const.Statement Cert.SwaPromptIdeal.κ "log2e" .f32 0x3FB8AA3B#32 (((Real.log 2)⁻¹ : ℝ) : EReal)

def algebraic_SwaPromptIdeal_SwaPromptRefIdeal_pre_prompt_finite [hSwaPromptIdeal : Cert.SwaPromptIdeal.Facts] [hSwaPromptRefIdeal : Cert.SwaPromptRefIdeal.Facts] [hPre_prompt_finite : Cert.Pre_prompt_finite.Facts] : Prop :=
  ∀ (m : (ℓ : Loc Cert.SwaPromptIdeal.nD Cert.SwaPromptIdeal.τ Cert.SwaPromptIdeal.sig) → Buf (Elt Ideal) ℓ) (g : Dev Cert.SwaPromptIdeal.nD → PrngReg)
    (m' : (ℓ : Loc Cert.SwaPromptRefIdeal.nD Cert.SwaPromptRefIdeal.τ Cert.SwaPromptRefIdeal.sig) → Buf (Elt Ideal) ℓ) (g' : Dev Cert.SwaPromptRefIdeal.nD → PrngReg), Pre_SwaPromptIdeal_prompt_finite m →
    (∀ c : Dev Cert.SwaPromptIdeal.nD,
      m' ((c.tc : Thread Cert.SwaPromptRefIdeal.nD Cert.SwaPromptRefIdeal.τ).loc Cert.SwaPromptRefIdeal.main_arg0) = m ((c.tc : Thread Cert.SwaPromptIdeal.nD Cert.SwaPromptIdeal.τ).loc Cert.SwaPromptIdeal.main_arg0)
      ∧ m' ((c.tc : Thread Cert.SwaPromptRefIdeal.nD Cert.SwaPromptRefIdeal.τ).loc Cert.SwaPromptRefIdeal.main_arg1) = m ((c.tc : Thread Cert.SwaPromptIdeal.nD Cert.SwaPromptIdeal.τ).loc Cert.SwaPromptIdeal.main_arg1)) →
    ∃ (v0 : (c : Dev Cert.SwaPromptIdeal.nD) → Buf (Elt Ideal) ((c.tc : Thread Cert.SwaPromptIdeal.nD Cert.SwaPromptIdeal.τ).loc Cert.SwaPromptIdeal.main_v0)),
      θ_run (Cert.SwaPromptIdeal.defs (F := Ideal)) (onTc (τ := Cert.SwaPromptIdeal.τ) (Cert.SwaPromptIdeal.main (F := Ideal))) ⟨m, fun _ => 0, g⟩ (fun r => ∀ c : Dev Cert.SwaPromptIdeal.nD,
          r.2.mem ((c.tc : Thread Cert.SwaPromptIdeal.nD Cert.SwaPromptIdeal.τ).loc Cert.SwaPromptIdeal.main_v0) = v0 c
          ∧ r.2.mem ((c.tc : Thread Cert.SwaPromptIdeal.nD Cert.SwaPromptIdeal.τ).loc Cert.SwaPromptIdeal.main_arg0) = m ((c.tc : Thread Cert.SwaPromptIdeal.nD Cert.SwaPromptIdeal.τ).loc Cert.SwaPromptIdeal.main_arg0)
          ∧ r.2.mem ((c.tc : Thread Cert.SwaPromptIdeal.nD Cert.SwaPromptIdeal.τ).loc Cert.SwaPromptIdeal.main_arg1) = m ((c.tc : Thread Cert.SwaPromptIdeal.nD Cert.SwaPromptIdeal.τ).loc Cert.SwaPromptIdeal.main_arg1))
      ∧ θ_run (Cert.SwaPromptRefIdeal.defs (F := Ideal)) (onTc (τ := Cert.SwaPromptRefIdeal.τ) (Cert.SwaPromptRefIdeal.main (F := Ideal))) ⟨m', fun _ => 0, g'⟩ (fun r => ∀ c : Dev Cert.SwaPromptRefIdeal.nD,
          r.2.mem ((c.tc : Thread Cert.SwaPromptRefIdeal.nD Cert.SwaPromptRefIdeal.τ).loc Cert.SwaPromptRefIdeal.main_v79) = v0 c
          ∧ r.2.mem ((c.tc : Thread Cert.SwaPromptRefIdeal.nD Cert.SwaPromptRefIdeal.τ).loc Cert.SwaPromptRefIdeal.main_arg0) = m' ((c.tc : Thread Cert.SwaPromptRefIdeal.nD Cert.SwaPromptRefIdeal.τ).loc Cert.SwaPromptRefIdeal.main_arg0)
          ∧ r.2.mem ((c.tc : Thread Cert.SwaPromptRefIdeal.nD Cert.SwaPromptRefIdeal.τ).loc Cert.SwaPromptRefIdeal.main_arg1) = m' ((c.tc : Thread Cert.SwaPromptRefIdeal.nD Cert.SwaPromptRefIdeal.τ).loc Cert.SwaPromptRefIdeal.main_arg1))

def preserves_GateUp_GateUpIdeal : Prop :=
  True

def algebraic_GateUpIdeal_GateUpRefIdeal [hGateUpIdeal : Cert.GateUpIdeal.Facts] [hGateUpRefIdeal : Cert.GateUpRefIdeal.Facts] : Prop :=
  ∀ (m : (ℓ : Loc Cert.GateUpIdeal.nD Cert.GateUpIdeal.τ Cert.GateUpIdeal.sig) → Buf (Elt Ideal) ℓ) (g : Dev Cert.GateUpIdeal.nD → PrngReg)
    (m' : (ℓ : Loc Cert.GateUpRefIdeal.nD Cert.GateUpRefIdeal.τ Cert.GateUpRefIdeal.sig) → Buf (Elt Ideal) ℓ) (g' : Dev Cert.GateUpRefIdeal.nD → PrngReg), Pre_GateUpIdeal m →
    (∀ c : Dev Cert.GateUpIdeal.nD,
      m' ((c.tc : Thread Cert.GateUpRefIdeal.nD Cert.GateUpRefIdeal.τ).loc Cert.GateUpRefIdeal.main_arg0) = m ((c.tc : Thread Cert.GateUpIdeal.nD Cert.GateUpIdeal.τ).loc Cert.GateUpIdeal.main_arg0)
      ∧ m' ((c.tc : Thread Cert.GateUpRefIdeal.nD Cert.GateUpRefIdeal.τ).loc Cert.GateUpRefIdeal.main_arg1) = m ((c.tc : Thread Cert.GateUpIdeal.nD Cert.GateUpIdeal.τ).loc Cert.GateUpIdeal.main_arg1)
      ∧ m' ((c.tc : Thread Cert.GateUpRefIdeal.nD Cert.GateUpRefIdeal.τ).loc Cert.GateUpRefIdeal.main_arg2) = m ((c.tc : Thread Cert.GateUpIdeal.nD Cert.GateUpIdeal.τ).loc Cert.GateUpIdeal.main_arg2)
      ∧ m' ((c.tc : Thread Cert.GateUpRefIdeal.nD Cert.GateUpRefIdeal.τ).loc Cert.GateUpRefIdeal.main_arg3) = m ((c.tc : Thread Cert.GateUpIdeal.nD Cert.GateUpIdeal.τ).loc Cert.GateUpIdeal.main_arg3)) →
    ∃ (v0 : (c : Dev Cert.GateUpIdeal.nD) → Buf (Elt Ideal) ((c.tc : Thread Cert.GateUpIdeal.nD Cert.GateUpIdeal.τ).loc Cert.GateUpIdeal.main_v0_0)) (v1 : (c : Dev Cert.GateUpIdeal.nD) → Buf (Elt Ideal) ((c.tc : Thread Cert.GateUpIdeal.nD Cert.GateUpIdeal.τ).loc Cert.GateUpIdeal.main_v0_1)),
      θ_run (Cert.GateUpIdeal.defs (F := Ideal)) (onTc (τ := Cert.GateUpIdeal.τ) (Cert.GateUpIdeal.main (F := Ideal))) ⟨m, fun _ => 0, g⟩ (fun r => ∀ c : Dev Cert.GateUpIdeal.nD,
          r.2.mem ((c.tc : Thread Cert.GateUpIdeal.nD Cert.GateUpIdeal.τ).loc Cert.GateUpIdeal.main_v0_0) = v0 c
          ∧ r.2.mem ((c.tc : Thread Cert.GateUpIdeal.nD Cert.GateUpIdeal.τ).loc Cert.GateUpIdeal.main_v0_1) = v1 c
          ∧ r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
          ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
          ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2)
          ∧ r.2.mem ((c.tc : Thread Cert.GateUpIdeal.nD Cert.GateUpIdeal.τ).loc Cert.GateUpIdeal.main_arg3) = m ((c.tc : Thread Cert.GateUpIdeal.nD Cert.GateUpIdeal.τ).loc Cert.GateUpIdeal.main_arg3))
      ∧ θ_run (Cert.GateUpRefIdeal.defs (F := Ideal)) (onTc (τ := Cert.GateUpRefIdeal.τ) (Cert.GateUpRefIdeal.main (F := Ideal))) ⟨m', fun _ => 0, g'⟩ (fun r => ∀ c : Dev Cert.GateUpRefIdeal.nD,
          r.2.mem ((c.tc : Thread Cert.GateUpRefIdeal.nD Cert.GateUpRefIdeal.τ).loc Cert.GateUpRefIdeal.main_v12) = v0 c
          ∧ r.2.mem ((c.tc : Thread Cert.GateUpRefIdeal.nD Cert.GateUpRefIdeal.τ).loc Cert.GateUpRefIdeal.main_v16) = v1 c
          ∧ r.2.mem ((c.tc : Thread Cert.GateUpRefIdeal.nD Cert.GateUpRefIdeal.τ).loc Cert.GateUpRefIdeal.main_arg0) = m' ((c.tc : Thread Cert.GateUpRefIdeal.nD Cert.GateUpRefIdeal.τ).loc Cert.GateUpRefIdeal.main_arg0)
          ∧ r.2.mem ((c.tc : Thread Cert.GateUpRefIdeal.nD Cert.GateUpRefIdeal.τ).loc Cert.GateUpRefIdeal.main_arg1) = m' ((c.tc : Thread Cert.GateUpRefIdeal.nD Cert.GateUpRefIdeal.τ).loc Cert.GateUpRefIdeal.main_arg1)
          ∧ r.2.mem ((c.tc : Thread Cert.GateUpRefIdeal.nD Cert.GateUpRefIdeal.τ).loc Cert.GateUpRefIdeal.main_arg2) = m' ((c.tc : Thread Cert.GateUpRefIdeal.nD Cert.GateUpRefIdeal.τ).loc Cert.GateUpRefIdeal.main_arg2)
          ∧ r.2.mem ((c.tc : Thread Cert.GateUpRefIdeal.nD Cert.GateUpRefIdeal.τ).loc Cert.GateUpRefIdeal.main_arg3) = m' ((c.tc : Thread Cert.GateUpRefIdeal.nD Cert.GateUpRefIdeal.τ).loc Cert.GateUpRefIdeal.main_arg3))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v4) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)) →
    ∃ (v0 : (c : Dev Cert.OutIdeal.nD) → Buf (Elt Ideal) ((c.tc : Thread Cert.OutIdeal.nD Cert.OutIdeal.τ).loc Cert.OutIdeal.main_v0)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v0) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v4) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2))

def preserves_Qkv_QkvIdeal : Prop :=
  True

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)
      ∧ m' ((c.tc : Thread Cert.QkvRefIdeal.nD Cert.QkvRefIdeal.τ).loc Cert.QkvRefIdeal.main_arg2) = m ((c.tc : Thread Cert.QkvIdeal.nD Cert.QkvIdeal.τ).loc Cert.QkvIdeal.main_arg2)) →
    ∃ (v0 : (c : Dev Cert.QkvIdeal.nD) → Buf (Elt Ideal) ((c.tc : Thread Cert.QkvIdeal.nD Cert.QkvIdeal.τ).loc Cert.QkvIdeal.main_v21)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v21) = v0 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v77) = v0 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1)
          ∧ r.2.mem ((c.tc : Thread Cert.QkvRefIdeal.nD Cert.QkvRefIdeal.τ).loc Cert.QkvRefIdeal.main_arg2) = m' ((c.tc : Thread Cert.QkvRefIdeal.nD Cert.QkvRefIdeal.τ).loc Cert.QkvRefIdeal.main_arg2))

def preserves_Side_SideIdeal : Prop :=
  True

def algebraic_SideIdeal_SideRefIdeal [hSideIdeal : Cert.SideIdeal.Facts] [hSideRefIdeal : Cert.SideRefIdeal.Facts] : Prop :=
  ∀ (m : (ℓ : Loc Cert.SideIdeal.nD Cert.SideIdeal.τ Cert.SideIdeal.sig) → Buf (Elt Ideal) ℓ) (g : Dev Cert.SideIdeal.nD → PrngReg)
    (m' : (ℓ : Loc Cert.SideRefIdeal.nD Cert.SideRefIdeal.τ Cert.SideRefIdeal.sig) → Buf (Elt Ideal) ℓ) (g' : Dev Cert.SideRefIdeal.nD → PrngReg), Pre_SideIdeal m →
    (∀ c : Dev Cert.SideIdeal.nD,
      m' ((c.tc : Thread Cert.SideRefIdeal.nD Cert.SideRefIdeal.τ).loc Cert.SideRefIdeal.main_arg0) = m ((c.tc : Thread Cert.SideIdeal.nD Cert.SideIdeal.τ).loc Cert.SideIdeal.main_arg0)
      ∧ m' ((c.tc : Thread Cert.SideRefIdeal.nD Cert.SideRefIdeal.τ).loc Cert.SideRefIdeal.main_arg1) = m ((c.tc : Thread Cert.SideIdeal.nD Cert.SideIdeal.τ).loc Cert.SideIdeal.main_arg1)
      ∧ m' ((c.tc : Thread Cert.SideRefIdeal.nD Cert.SideRefIdeal.τ).loc Cert.SideRefIdeal.main_arg2) = m ((c.tc : Thread Cert.SideIdeal.nD Cert.SideIdeal.τ).loc Cert.SideIdeal.main_arg2)
      ∧ m' ((c.tc : Thread Cert.SideRefIdeal.nD Cert.SideRefIdeal.τ).loc Cert.SideRefIdeal.main_arg3) = m ((c.tc : Thread Cert.SideIdeal.nD Cert.SideIdeal.τ).loc Cert.SideIdeal.main_arg3)
      ∧ m' ((c.tc : Thread Cert.SideRefIdeal.nD Cert.SideRefIdeal.τ).loc Cert.SideRefIdeal.main_arg4) = m ((c.tc : Thread Cert.SideIdeal.nD Cert.SideIdeal.τ).loc Cert.SideIdeal.main_arg4)) →
    ∃ (v0 : (c : Dev Cert.SideIdeal.nD) → Buf (Elt Ideal) ((c.tc : Thread Cert.SideIdeal.nD Cert.SideIdeal.τ).loc Cert.SideIdeal.main_v0_0)) (v1 : (c : Dev Cert.SideIdeal.nD) → Buf (Elt Ideal) ((c.tc : Thread Cert.SideIdeal.nD Cert.SideIdeal.τ).loc Cert.SideIdeal.main_v0_1)) (v2 : (c : Dev Cert.SideIdeal.nD) → Buf (Elt Ideal) ((c.tc : Thread Cert.SideIdeal.nD Cert.SideIdeal.τ).loc Cert.SideIdeal.main_v0_2)),
      θ_run (Cert.SideIdeal.defs (F := Ideal)) (onTc (τ := Cert.SideIdeal.τ) (Cert.SideIdeal.main (F := Ideal))) ⟨m, fun _ => 0, g⟩ (fun r => ∀ c : Dev Cert.SideIdeal.nD,
          r.2.mem ((c.tc : Thread Cert.SideIdeal.nD Cert.SideIdeal.τ).loc Cert.SideIdeal.main_v0_0) = v0 c
          ∧ r.2.mem ((c.tc : Thread Cert.SideIdeal.nD Cert.SideIdeal.τ).loc Cert.SideIdeal.main_v0_1) = v1 c
          ∧ r.2.mem ((c.tc : Thread Cert.SideIdeal.nD Cert.SideIdeal.τ).loc Cert.SideIdeal.main_v0_2) = v2 c
          ∧ r.2.mem ((c.tc : Thread Cert.SideIdeal.nD Cert.SideIdeal.τ).loc Cert.SideIdeal.main_arg0) = m ((c.tc : Thread Cert.SideIdeal.nD Cert.SideIdeal.τ).loc Cert.SideIdeal.main_arg0)
          ∧ r.2.mem ((c.tc : Thread Cert.SideIdeal.nD Cert.SideIdeal.τ).loc Cert.SideIdeal.main_arg1) = m ((c.tc : Thread Cert.SideIdeal.nD Cert.SideIdeal.τ).loc Cert.SideIdeal.main_arg1)
          ∧ r.2.mem ((c.tc : Thread Cert.SideIdeal.nD Cert.SideIdeal.τ).loc Cert.SideIdeal.main_arg2) = m ((c.tc : Thread Cert.SideIdeal.nD Cert.SideIdeal.τ).loc Cert.SideIdeal.main_arg2)
          ∧ r.2.mem ((c.tc : Thread Cert.SideIdeal.nD Cert.SideIdeal.τ).loc Cert.SideIdeal.main_arg3) = m ((c.tc : Thread Cert.SideIdeal.nD Cert.SideIdeal.τ).loc Cert.SideIdeal.main_arg3)
          ∧ r.2.mem ((c.tc : Thread Cert.SideIdeal.nD Cert.SideIdeal.τ).loc Cert.SideIdeal.main_arg4) = m ((c.tc : Thread Cert.SideIdeal.nD Cert.SideIdeal.τ).loc Cert.SideIdeal.main_arg4))
      ∧ θ_run (Cert.SideRefIdeal.defs (F := Ideal)) (onTc (τ := Cert.SideRefIdeal.τ) (Cert.SideRefIdeal.main (F := Ideal))) ⟨m', fun _ => 0, g'⟩ (fun r => ∀ c : Dev Cert.SideRefIdeal.nD,
          r.2.mem ((c.tc : Thread Cert.SideRefIdeal.nD Cert.SideRefIdeal.τ).loc Cert.SideRefIdeal.main_v4) = v0 c
          ∧ r.2.mem ((c.tc : Thread Cert.SideRefIdeal.nD Cert.SideRefIdeal.τ).loc Cert.SideRefIdeal.main_v7) = v1 c
          ∧ r.2.mem ((c.tc : Thread Cert.SideRefIdeal.nD Cert.SideRefIdeal.τ).loc Cert.SideRefIdeal.main_v10) = v2 c
          ∧ r.2.mem ((c.tc : Thread Cert.SideRefIdeal.nD Cert.SideRefIdeal.τ).loc Cert.SideRefIdeal.main_arg0) = m' ((c.tc : Thread Cert.SideRefIdeal.nD Cert.SideRefIdeal.τ).loc Cert.SideRefIdeal.main_arg0)
          ∧ r.2.mem ((c.tc : Thread Cert.SideRefIdeal.nD Cert.SideRefIdeal.τ).loc Cert.SideRefIdeal.main_arg1) = m' ((c.tc : Thread Cert.SideRefIdeal.nD Cert.SideRefIdeal.τ).loc Cert.SideRefIdeal.main_arg1)
          ∧ r.2.mem ((c.tc : Thread Cert.SideRefIdeal.nD Cert.SideRefIdeal.τ).loc Cert.SideRefIdeal.main_arg2) = m' ((c.tc : Thread Cert.SideRefIdeal.nD Cert.SideRefIdeal.τ).loc Cert.SideRefIdeal.main_arg2)
          ∧ r.2.mem ((c.tc : Thread Cert.SideRefIdeal.nD Cert.SideRefIdeal.τ).loc Cert.SideRefIdeal.main_arg3) = m' ((c.tc : Thread Cert.SideRefIdeal.nD Cert.SideRefIdeal.τ).loc Cert.SideRefIdeal.main_arg3)
          ∧ r.2.mem ((c.tc : Thread Cert.SideRefIdeal.nD Cert.SideRefIdeal.τ).loc Cert.SideRefIdeal.main_arg4) = m' ((c.tc : Thread Cert.SideRefIdeal.nD Cert.SideRefIdeal.τ).loc Cert.SideRefIdeal.main_arg4))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v1) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v13) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1))

def preserves_YPrompt_YPromptIdeal : Prop :=
  True

def algebraic_YPromptIdeal_YPromptRefIdeal [hYPromptIdeal : Cert.YPromptIdeal.Facts] [hYPromptRefIdeal : Cert.YPromptRefIdeal.Facts] : Prop :=
  ∀ (m : (ℓ : Loc Cert.YPromptIdeal.nD Cert.YPromptIdeal.τ Cert.YPromptIdeal.sig) → Buf (Elt Ideal) ℓ) (g : Dev Cert.YPromptIdeal.nD → PrngReg)
    (m' : (ℓ : Loc Cert.YPromptRefIdeal.nD Cert.YPromptRefIdeal.τ Cert.YPromptRefIdeal.sig) → Buf (Elt Ideal) ℓ) (g' : Dev Cert.YPromptRefIdeal.nD → PrngReg), Pre_YPromptIdeal m →
    (∀ c : Dev Cert.YPromptIdeal.nD,
      m' ((c.tc : Thread Cert.YPromptRefIdeal.nD Cert.YPromptRefIdeal.τ).loc Cert.YPromptRefIdeal.main_arg0) = m ((c.tc : Thread Cert.YPromptIdeal.nD Cert.YPromptIdeal.τ).loc Cert.YPromptIdeal.main_arg0)
      ∧ m' ((c.tc : Thread Cert.YPromptRefIdeal.nD Cert.YPromptRefIdeal.τ).loc Cert.YPromptRefIdeal.main_arg1) = m ((c.tc : Thread Cert.YPromptIdeal.nD Cert.YPromptIdeal.τ).loc Cert.YPromptIdeal.main_arg1)) →
    ∃ (v0 : (c : Dev Cert.YPromptIdeal.nD) → Buf (Elt Ideal) ((c.tc : Thread Cert.YPromptIdeal.nD Cert.YPromptIdeal.τ).loc Cert.YPromptIdeal.main_v1)),
      θ_run (Cert.YPromptIdeal.defs (F := Ideal)) (onTc (τ := Cert.YPromptIdeal.τ) (Cert.YPromptIdeal.main (F := Ideal))) ⟨m, fun _ => 0, g⟩ (fun r => ∀ c : Dev Cert.YPromptIdeal.nD,
          r.2.mem ((c.tc : Thread Cert.YPromptIdeal.nD Cert.YPromptIdeal.τ).loc Cert.YPromptIdeal.main_v1) = v0 c
          ∧ r.2.mem ((c.tc : Thread Cert.YPromptIdeal.nD Cert.YPromptIdeal.τ).loc Cert.YPromptIdeal.main_arg0) = m ((c.tc : Thread Cert.YPromptIdeal.nD Cert.YPromptIdeal.τ).loc Cert.YPromptIdeal.main_arg0)
          ∧ r.2.mem ((c.tc : Thread Cert.YPromptIdeal.nD Cert.YPromptIdeal.τ).loc Cert.YPromptIdeal.main_arg1) = m ((c.tc : Thread Cert.YPromptIdeal.nD Cert.YPromptIdeal.τ).loc Cert.YPromptIdeal.main_arg1))
      ∧ θ_run (Cert.YPromptRefIdeal.defs (F := Ideal)) (onTc (τ := Cert.YPromptRefIdeal.τ) (Cert.YPromptRefIdeal.main (F := Ideal))) ⟨m', fun _ => 0, g'⟩ (fun r => ∀ c : Dev Cert.YPromptRefIdeal.nD,
          r.2.mem ((c.tc : Thread Cert.YPromptRefIdeal.nD Cert.YPromptRefIdeal.τ).loc Cert.YPromptRefIdeal.main_v13) = v0 c
          ∧ r.2.mem ((c.tc : Thread Cert.YPromptRefIdeal.nD Cert.YPromptRefIdeal.τ).loc Cert.YPromptRefIdeal.main_arg0) = m' ((c.tc : Thread Cert.YPromptRefIdeal.nD Cert.YPromptRefIdeal.τ).loc Cert.YPromptRefIdeal.main_arg0)
          ∧ r.2.mem ((c.tc : Thread Cert.YPromptRefIdeal.nD Cert.YPromptRefIdeal.τ).loc Cert.YPromptRefIdeal.main_arg1) = m' ((c.tc : Thread Cert.YPromptRefIdeal.nD Cert.YPromptRefIdeal.τ).loc Cert.YPromptRefIdeal.main_arg1))

def preserves_YSample_YSampleIdeal : Prop :=
  True

def algebraic_YSampleIdeal_YSampleRefIdeal [hYSampleIdeal : Cert.YSampleIdeal.Facts] [hYSampleRefIdeal : Cert.YSampleRefIdeal.Facts] : Prop :=
  ∀ (m : (ℓ : Loc Cert.YSampleIdeal.nD Cert.YSampleIdeal.τ Cert.YSampleIdeal.sig) → Buf (Elt Ideal) ℓ) (g : Dev Cert.YSampleIdeal.nD → PrngReg)
    (m' : (ℓ : Loc Cert.YSampleRefIdeal.nD Cert.YSampleRefIdeal.τ Cert.YSampleRefIdeal.sig) → Buf (Elt Ideal) ℓ) (g' : Dev Cert.YSampleRefIdeal.nD → PrngReg), Pre_YSampleIdeal m →
    (∀ c : Dev Cert.YSampleIdeal.nD,
      m' ((c.tc : Thread Cert.YSampleRefIdeal.nD Cert.YSampleRefIdeal.τ).loc Cert.YSampleRefIdeal.main_arg0) = m ((c.tc : Thread Cert.YSampleIdeal.nD Cert.YSampleIdeal.τ).loc Cert.YSampleIdeal.main_arg0)
      ∧ m' ((c.tc : Thread Cert.YSampleRefIdeal.nD Cert.YSampleRefIdeal.τ).loc Cert.YSampleRefIdeal.main_arg1) = m ((c.tc : Thread Cert.YSampleIdeal.nD Cert.YSampleIdeal.τ).loc Cert.YSampleIdeal.main_arg1)) →
    ∃ (v0 : (c : Dev Cert.YSampleIdeal.nD) → Buf (Elt Ideal) ((c.tc : Thread Cert.YSampleIdeal.nD Cert.YSampleIdeal.τ).loc Cert.YSampleIdeal.main_v1)),
      θ_run (Cert.YSampleIdeal.defs (F := Ideal)) (onTc (τ := Cert.YSampleIdeal.τ) (Cert.YSampleIdeal.main (F := Ideal))) ⟨m, fun _ => 0, g⟩ (fun r => ∀ c : Dev Cert.YSampleIdeal.nD,
          r.2.mem ((c.tc : Thread Cert.YSampleIdeal.nD Cert.YSampleIdeal.τ).loc Cert.YSampleIdeal.main_v1) = v0 c
          ∧ r.2.mem ((c.tc : Thread Cert.YSampleIdeal.nD Cert.YSampleIdeal.τ).loc Cert.YSampleIdeal.main_arg0) = m ((c.tc : Thread Cert.YSampleIdeal.nD Cert.YSampleIdeal.τ).loc Cert.YSampleIdeal.main_arg0)
          ∧ r.2.mem ((c.tc : Thread Cert.YSampleIdeal.nD Cert.YSampleIdeal.τ).loc Cert.YSampleIdeal.main_arg1) = m ((c.tc : Thread Cert.YSampleIdeal.nD Cert.YSampleIdeal.τ).loc Cert.YSampleIdeal.main_arg1))
      ∧ θ_run (Cert.YSampleRefIdeal.defs (F := Ideal)) (onTc (τ := Cert.YSampleRefIdeal.τ) (Cert.YSampleRefIdeal.main (F := Ideal))) ⟨m', fun _ => 0, g'⟩ (fun r => ∀ c : Dev Cert.YSampleRefIdeal.nD,
          r.2.mem ((c.tc : Thread Cert.YSampleRefIdeal.nD Cert.YSampleRefIdeal.τ).loc Cert.YSampleRefIdeal.main_v13) = v0 c
          ∧ r.2.mem ((c.tc : Thread Cert.YSampleRefIdeal.nD Cert.YSampleRefIdeal.τ).loc Cert.YSampleRefIdeal.main_arg0) = m' ((c.tc : Thread Cert.YSampleRefIdeal.nD Cert.YSampleRefIdeal.τ).loc Cert.YSampleRefIdeal.main_arg0)
          ∧ r.2.mem ((c.tc : Thread Cert.YSampleRefIdeal.nD Cert.YSampleRefIdeal.τ).loc Cert.YSampleRefIdeal.main_arg1) = m' ((c.tc : Thread Cert.YSampleRefIdeal.nD Cert.YSampleRefIdeal.τ).loc Cert.YSampleRefIdeal.main_arg1))

def Claim : Prop :=
  ∃ (hSwaPrompt : Cert.SwaPrompt.Facts) (hSwaPromptIdeal : Cert.SwaPromptIdeal.Facts) (hSwaPromptRefIdeal : Cert.SwaPromptRefIdeal.Facts) (hGateUp : Cert.GateUp.Facts) (hGateUpIdeal : Cert.GateUpIdeal.Facts) (hGateUpRefIdeal : Cert.GateUpRefIdeal.Facts) (hDown : Cert.Down.Facts) (hDownIdeal : Cert.DownIdeal.Facts) (hDownRefIdeal : Cert.DownRefIdeal.Facts) (hOut : Cert.Out.Facts) (hOutIdeal : Cert.OutIdeal.Facts) (hOutRefIdeal : Cert.OutRefIdeal.Facts) (hQkv : Cert.Qkv.Facts) (hQkvIdeal : Cert.QkvIdeal.Facts) (hQkvRefIdeal : Cert.QkvRefIdeal.Facts) (hSide : Cert.Side.Facts) (hSideIdeal : Cert.SideIdeal.Facts) (hSideRefIdeal : Cert.SideRefIdeal.Facts) (hNorm : Cert.Norm.Facts) (hNormIdeal : Cert.NormIdeal.Facts) (hNormRefIdeal : Cert.NormRefIdeal.Facts) (hYPrompt : Cert.YPrompt.Facts) (hYPromptIdeal : Cert.YPromptIdeal.Facts) (hYPromptRefIdeal : Cert.YPromptRefIdeal.Facts) (hYSample : Cert.YSample.Facts) (hYSampleIdeal : Cert.YSampleIdeal.Facts) (hYSampleRefIdeal : Cert.YSampleRefIdeal.Facts) (hPre_prompt_finite : Cert.Pre_prompt_finite.Facts),
    quiescent_SwaPrompt (hSwaPrompt := hSwaPrompt)
    ∧ quiescent_SwaPromptIdeal (hSwaPromptIdeal := hSwaPromptIdeal)
    ∧ quiescent_SwaPromptIdeal_pre_prompt_finite (hSwaPromptIdeal := hSwaPromptIdeal) (hPre_prompt_finite := hPre_prompt_finite)
    ∧ quiescent_SwaPromptRefIdeal (hSwaPromptRefIdeal := hSwaPromptRefIdeal)
    ∧ quiescent_SwaPromptRefIdeal_pre_prompt_finite (hSwaPromptRefIdeal := hSwaPromptRefIdeal) (hPre_prompt_finite := hPre_prompt_finite)
    ∧ quiescent_GateUp (hGateUp := hGateUp)
    ∧ quiescent_GateUpIdeal (hGateUpIdeal := hGateUpIdeal)
    ∧ quiescent_GateUpRefIdeal (hGateUpRefIdeal := hGateUpRefIdeal)
    ∧ quiescent_Down (hDown := hDown)
    ∧ quiescent_DownIdeal (hDownIdeal := hDownIdeal)
    ∧ quiescent_DownRefIdeal (hDownRefIdeal := hDownRefIdeal)
    ∧ quiescent_Out (hOut := hOut)
    ∧ quiescent_OutIdeal (hOutIdeal := hOutIdeal)
    ∧ quiescent_OutRefIdeal (hOutRefIdeal := hOutRefIdeal)
    ∧ quiescent_Qkv (hQkv := hQkv)
    ∧ quiescent_QkvIdeal (hQkvIdeal := hQkvIdeal)
    ∧ quiescent_QkvRefIdeal (hQkvRefIdeal := hQkvRefIdeal)
    ∧ quiescent_Side (hSide := hSide)
    ∧ quiescent_SideIdeal (hSideIdeal := hSideIdeal)
    ∧ quiescent_SideRefIdeal (hSideRefIdeal := hSideRefIdeal)
    ∧ quiescent_Norm (hNorm := hNorm)
    ∧ quiescent_NormIdeal (hNormIdeal := hNormIdeal)
    ∧ quiescent_NormRefIdeal (hNormRefIdeal := hNormRefIdeal)
    ∧ quiescent_YPrompt (hYPrompt := hYPrompt)
    ∧ quiescent_YPromptIdeal (hYPromptIdeal := hYPromptIdeal)
    ∧ quiescent_YPromptRefIdeal (hYPromptRefIdeal := hYPromptRefIdeal)
    ∧ quiescent_YSample (hYSample := hYSample)
    ∧ quiescent_YSampleIdeal (hYSampleIdeal := hYSampleIdeal)
    ∧ quiescent_YSampleRefIdeal (hYSampleRefIdeal := hYSampleRefIdeal)
    ∧ preserves_SwaPrompt_SwaPromptIdeal
    ∧ algebraic_SwaPromptIdeal_SwaPromptRefIdeal_pre_prompt_finite (hSwaPromptIdeal := hSwaPromptIdeal) (hSwaPromptRefIdeal := hSwaPromptRefIdeal) (hPre_prompt_finite := hPre_prompt_finite)
    ∧ preserves_GateUp_GateUpIdeal
    ∧ algebraic_GateUpIdeal_GateUpRefIdeal (hGateUpIdeal := hGateUpIdeal) (hGateUpRefIdeal := hGateUpRefIdeal)
    ∧ preserves_Down_DownIdeal
    ∧ algebraic_DownIdeal_DownRefIdeal (hDownIdeal := hDownIdeal) (hDownRefIdeal := hDownRefIdeal)
    ∧ preserves_Out_OutIdeal
    ∧ algebraic_OutIdeal_OutRefIdeal (hOutIdeal := hOutIdeal) (hOutRefIdeal := hOutRefIdeal)
    ∧ preserves_Qkv_QkvIdeal
    ∧ algebraic_QkvIdeal_QkvRefIdeal (hQkvIdeal := hQkvIdeal) (hQkvRefIdeal := hQkvRefIdeal)
    ∧ preserves_Side_SideIdeal
    ∧ algebraic_SideIdeal_SideRefIdeal (hSideIdeal := hSideIdeal) (hSideRefIdeal := hSideRefIdeal)
    ∧ preserves_Norm_NormIdeal
    ∧ algebraic_NormIdeal_NormRefIdeal (hNormIdeal := hNormIdeal) (hNormRefIdeal := hNormRefIdeal)
    ∧ preserves_YPrompt_YPromptIdeal
    ∧ algebraic_YPromptIdeal_YPromptRefIdeal (hYPromptIdeal := hYPromptIdeal) (hYPromptRefIdeal := hYPromptRefIdeal)
    ∧ preserves_YSample_YSampleIdeal
    ∧ algebraic_YSampleIdeal_YSampleRefIdeal (hYSampleIdeal := hYSampleIdeal) (hYSampleRefIdeal := hYSampleRefIdeal)
-- ==== Pre_prompt_finite.lean ====
abbrev S32 : Shape := ⟨1, ![32]⟩
abbrev S8320x6144 : Shape := ⟨2, ![8320, 6144]⟩
abbrev S_ : Shape := ⟨0, ![]⟩
abbrev S8192x5120 : Shape := ⟨2, ![8192, 5120]⟩

class Facts : Prop where
  bcast_S_S32 : S_.BroadcastsInDim S32 (![] : Fin 0 → Fin S32.rank)
  slices_S8320x6144_S8192x5120_0_0 : S8320x6144.Slices ![0, 0] S8192x5120
  bcast_S_S8192x5120 : S_.BroadcastsInDim S8192x5120 (![] : Fin 0 → Fin S8192x5120.rank)

variable [Facts]

def fn {F : FTy → Type} [FloatOps F] (main_arg0 : FVec F S32 .f32) (main_arg1 : FVec F S8320x6144 .f32) : IVec S32 1 × IVec S8192x5120 1 :=
  let main_v0 : FVec F S32 .f32 := Host.absf main_arg0
  let main_cst : FVec F S_ .f32 := constant S_ .f32 0x7F800000#32
  let main_v1 : FVec F S32 .f32 := broadcastInDim S32 ![] bcast_S_S32 main_cst
  let main_v2 : IVec S32 1 := cmpf .olt main_v0 main_v1
  let main_v3 : FVec F S8192x5120 .f32 := (extractStridedSlice S8192x5120 ![0, 0] · slices_S8320x6144_S8192x5120_0_0) main_arg1
  let main_v4 : FVec F S8192x5120 .f32 := Host.absf main_v3
  let main_cst_0 : FVec F S_ .f32 := constant S_ .f32 0x7F800000#32
  let main_v5 : FVec F S8192x5120 .f32 := broadcastInDim S8192x5120 ![] bcast_S_S8192x5120 main_cst_0
  let main_v6 : IVec S8192x5120 1 := cmpf .olt main_v4 main_v5
  (main_v2, main_v6)
-- ==== SwaPrompt.lean ====
abbrev S32 : Shape := ⟨1, ![32]⟩
abbrev S8320x6144 : Shape := ⟨2, ![8320, 6144]⟩
abbrev S8192x4096 : Shape := ⟨2, ![8192, 4096]⟩
abbrev S256x4096 : Shape := ⟨2, ![256, 4096]⟩
abbrev S128x1024 : Shape := ⟨2, ![128, 1024]⟩
abbrev S256x1024 : Shape := ⟨2, ![256, 1024]⟩
abbrev S384x1024 : Shape := ⟨2, ![384, 1024]⟩
abbrev S1x1024 : Shape := ⟨2, ![1, 1024]⟩
abbrev S256x128 : Shape := ⟨2, ![256, 128]⟩
abbrev S1024x128 : Shape := ⟨2, ![1024, 128]⟩
abbrev S128x128 : Shape := ⟨2, ![128, 128]⟩
abbrev S384x128 : Shape := ⟨2, ![384, 128]⟩
abbrev S1 : Shape := ⟨1, ![1]⟩
abbrev S1024 : Shape := ⟨1, ![1024]⟩
abbrev S128x256 : Shape := ⟨2, ![128, 256]⟩

abbrev nBuf : Space → Nat
  | .hbm => 3
  | .vmem => 12
  | .smem => 1
  | _ => 0

abbrev bufTy : (tb : Table) → Fin (tcTables nBuf tb) → BufTy
  | .hbm, ⟨0, _⟩ => ⟨S32, .f32⟩
  | .hbm, ⟨1, _⟩ => ⟨S8320x6144, .f32⟩
  | .hbm, ⟨2, _⟩ => ⟨S8192x4096, .bf16⟩
  | .local _ .vmem, ⟨0, _⟩ => ⟨S256x4096, .f32⟩
  | .local _ .vmem, ⟨1, _⟩ => ⟨S256x4096, .f32⟩
  | .local _ .vmem, ⟨2, _⟩ => ⟨S128x1024, .f32⟩
  | .local _ .vmem, ⟨3, _⟩ => ⟨S128x1024, .f32⟩
  | .local _ .vmem, ⟨4, _⟩ => ⟨S256x1024, .f32⟩
  | .local _ .vmem, ⟨5, _⟩ => ⟨S256x1024, .f32⟩
  | .local _ .vmem, ⟨6, _⟩ => ⟨S128x1024, .f32⟩
  | .local _ .vmem, ⟨7, _⟩ => ⟨S128x1024, .f32⟩
  | .local _ .vmem, ⟨8, _⟩ => ⟨S256x1024, .f32⟩
  | .local _ .vmem, ⟨9, _⟩ => ⟨S256x1024, .f32⟩
  | .local _ .vmem, ⟨10, _⟩ => ⟨S256x4096, .bf16⟩
  | .local _ .vmem, ⟨11, _⟩ => ⟨S256x4096, .bf16⟩
  | .local _ .smem, ⟨0, _⟩ => ⟨S32, .f32⟩
  | _, _ => ⟨S32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨3, ![4, 1, 8], ![false, false, false]⟩

def k0_off1 (i : grid0.Coords) (c0_i32_28 : BitVec 32) (c0_i32_29 : BitVec 32) : Fin 1 → Nat :=
  let arg1 : BitVec 32 := BitVec.ofNat 32 (i 1).val
  let c8_i32 : BitVec 32 := 8#32
  let v76 : BitVec 32 := Scalar.muli arg1 c8_i32
  let v77 : BitVec 32 := Scalar.addi v76 c0_i32_28
  let c4_i32 : BitVec 32 := 4#32
  let v78 : BitVec 32 := Scalar.muli v77 c4_i32
  let v79 : BitVec 32 := Scalar.addi v78 c0_i32_29
  let v80 : Index := Scalar.indexCast v79
  ![v80.toNat]
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c2_i32 : BitVec 32 := 2#32
  let v2 : BitVec 32 := Scalar.muli v1 c2_i32
  let c1_i32 : BitVec 32 := 1#32
  let v3 : BitVec 32 := Scalar.minsi arg2 c1_i32
  let v4 : BitVec 32 := Scalar.subi v2 v3
  let c4_i32 : BitVec 32 := 4#32
  let v5 : BitVec 32 := Scalar.addi c4_i32 arg1
  let c0_i32 : BitVec 32 := 0#32
  ![v4.toNat, v5.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c4_i32 : BitVec 32 := 4#32
  let v2 : BitVec 32 := Scalar.addi c4_i32 arg1
  let c0_i32 : BitVec 32 := 0#32
  ![v1.toNat, v2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c2_i32 : BitVec 32 := 2#32
  let v2 : BitVec 32 := Scalar.muli v1 c2_i32
  let c1_i32 : BitVec 32 := 1#32
  let v3 : BitVec 32 := Scalar.minsi arg2 c1_i32
  let v4 : BitVec 32 := Scalar.subi v2 v3
  let c5_i32 : BitVec 32 := 5#32
  let v5 : BitVec 32 := Scalar.addi c5_i32 arg1
  let c0_i32 : BitVec 32 := 0#32
  ![v4.toNat, v5.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c5_i32 : BitVec 32 := 5#32
  let v2 : BitVec 32 := Scalar.addi c5_i32 arg1
  let c0_i32 : BitVec 32 := 0#32
  ![v1.toNat, v2.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 1 → Memref sig .tc .smem S32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S256x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== SwaPromptIdeal.lean ====
variable {F : FTy → Type} [FloatOps F] [Named F]
def κ : String → Option EReal := fun
  | "log2e" => some (((Real.log 2)⁻¹ : ℝ) : EReal)
  | "scale_log2e" => some (((11863283 / 134217728) * (Real.log 2)⁻¹ : ℝ) : EReal)
  | _ => none
-- ==== SwaPromptRefIdeal.lean ====
abbrev S32 : Shape := ⟨1, ![32]⟩
abbrev S8320x6144 : Shape := ⟨2, ![8320, 6144]⟩
abbrev S8192x6144 : Shape := ⟨2, ![8192, 6144]⟩
abbrev S4x2048x6144 : Shape := ⟨3, ![4, 2048, 6144]⟩
abbrev S4x2048x4096 : Shape := ⟨3, ![4, 2048, 4096]⟩
abbrev S4x2048x8x4x128 : Shape := ⟨5, ![4, 2048, 8, 4, 128]⟩
abbrev S4x2048x1024 : Shape := ⟨3, ![4, 2048, 1024]⟩
abbrev S4x2048x8x128 : Shape := ⟨4, ![4, 2048, 8, 128]⟩
abbrev S4x16x128x8x4x128 : Shape := ⟨6, ![4, 16, 128, 8, 4, 128]⟩
abbrev S16 : Shape := ⟨1, ![16]⟩
abbrev S16x1 : Shape := ⟨2, ![16, 1]⟩
abbrev S_ : Shape := ⟨0, ![]⟩
abbrev S128 : Shape := ⟨1, ![128]⟩
abbrev S1x128 : Shape := ⟨2, ![1, 128]⟩
abbrev S16x128 : Shape := ⟨2, ![16, 128]⟩
abbrev S256 : Shape := ⟨1, ![256]⟩
abbrev S1x256 : Shape := ⟨2, ![1, 256]⟩
abbrev S16x256 : Shape := ⟨2, ![16, 256]⟩
abbrev S4x2176x8x128 : Shape := ⟨4, ![4, 2176, 8, 128]⟩
abbrev S4x17x128x8x128 : Shape := ⟨5, ![4, 17, 128, 8, 128]⟩
abbrev S4x16x128x8x128 : Shape := ⟨5, ![4, 16, 128, 8, 128]⟩
abbrev S4x16x256x8x128 : Shape := ⟨5, ![4, 16, 256, 8, 128]⟩
abbrev S4x16x8x256x128x4 : Shape := ⟨6, ![4, 16, 8, 256, 128, 4]⟩
abbrev S4x16x8x4x128x256 : Shape := ⟨6, ![4, 16, 8, 4, 128, 256]⟩
abbrev S16x128x1 : Shape := ⟨3, ![16, 128, 1]⟩
abbrev S16x1x256 : Shape := ⟨3, ![16, 1, 256]⟩
abbrev S16x128x256 : Shape := ⟨3, ![16, 128, 256]⟩
abbrev S16x1x1x128x256 : Shape := ⟨5, ![16, 1, 1, 128, 256]⟩
abbrev S8x4x1x1 : Shape := ⟨4, ![8, 4, 1, 1]⟩
abbrev S4x16x8x4x128 : Shape := ⟨5, ![4, 16, 8, 4, 128]⟩
abbrev S4x16x8x4x128x1 : Shape := ⟨6, ![4, 16, 8, 4, 128, 1]⟩
abbrev S1x1x8x4x1x1 : Shape := ⟨6, ![1, 1, 8, 4, 1, 1]⟩
abbrev S4x16x8x128x4x128 : Shape := ⟨6, ![4, 16, 8, 128, 4, 128]⟩
abbrev S8192x4096 : Shape := ⟨2, ![8192, 4096]⟩

abbrev nBuf : Space → Nat
  | .hbm => 98
  | .vmem => 0
  | .smem => 0
  | _ => 0

abbrev bufTy : (tb : Table) → Fin (tcTables nBuf tb) → BufTy
  | .hbm, ⟨0, _⟩ => ⟨S32, .f32⟩
  | .hbm, ⟨1, _⟩ => ⟨S8320x6144, .f32⟩
  | .hbm, ⟨2, _⟩ => ⟨S8192x6144, .f32⟩
  | .hbm, ⟨3, _⟩ => ⟨S4x2048x6144, .f32⟩
  | .hbm, ⟨4, _⟩ => ⟨S4x2048x4096, .f32⟩
  | .hbm, ⟨5, _⟩ => ⟨S4x2048x8x4x128, .f32⟩
  | .hbm, ⟨6, _⟩ => ⟨S4x2048x1024, .f32⟩
  | .hbm, ⟨7, _⟩ => ⟨S4x2048x8x128, .f32⟩
  | .hbm, ⟨8, _⟩ => ⟨S4x2048x1024, .f32⟩
  | .hbm, ⟨9, _⟩ => ⟨S4x2048x8x128, .f32⟩
  | .hbm, ⟨10, _⟩ => ⟨S4x16x128x8x4x128, .f32⟩
  | .hbm, ⟨11, _⟩ => ⟨S16, .i32⟩
  | .hbm, ⟨12, _⟩ => ⟨S16x1, .i32⟩
  | .hbm, ⟨13, _⟩ => ⟨S_, .i32⟩
  | .hbm, ⟨14, _⟩ => ⟨S16x1, .i32⟩
  | .hbm, ⟨15, _⟩ => ⟨S16x1, .i32⟩
  | .hbm, ⟨16, _⟩ => ⟨S128, .i32⟩
  | .hbm, ⟨17, _⟩ => ⟨S1x128, .i32⟩
  | .hbm, ⟨18, _⟩ => ⟨S16x128, .i32⟩
  | .hbm, ⟨19, _⟩ => ⟨S16x128, .i32⟩
  | .hbm, ⟨20, _⟩ => ⟨S16x128, .i32⟩
  | .hbm, ⟨21, _⟩ => ⟨S_, .i32⟩
  | .hbm, ⟨22, _⟩ => ⟨S16x1, .i32⟩
  | .hbm, ⟨23, _⟩ => ⟨S16x1, .i32⟩
  | .hbm, ⟨24, _⟩ => ⟨S_, .i32⟩
  | .hbm, ⟨25, _⟩ => ⟨S16x1, .i32⟩
  | .hbm, ⟨26, _⟩ => ⟨S16x1, .i32⟩
  | .hbm, ⟨27, _⟩ => ⟨S256, .i32⟩
  | .hbm, ⟨28, _⟩ => ⟨S1x256, .i32⟩
  | .hbm, ⟨29, _⟩ => ⟨S16x256, .i32⟩
  | .hbm, ⟨30, _⟩ => ⟨S16x256, .i32⟩
  | .hbm, ⟨31, _⟩ => ⟨S16x256, .i32⟩
  | .hbm, ⟨32, _⟩ => ⟨S_, .i32⟩
  | .hbm, ⟨33, _⟩ => ⟨S_, .f32⟩
  | .hbm, ⟨34, _⟩ => ⟨S4x2176x8x128, .f32⟩
  | .hbm, ⟨35, _⟩ => ⟨S4x17x128x8x128, .f32⟩
  | .hbm, ⟨36, _⟩ => ⟨S4x16x128x8x128, .f32⟩
  | .hbm, ⟨37, _⟩ => ⟨S4x16x128x8x128, .f32⟩
  | .hbm, ⟨38, _⟩ => ⟨S4x16x256x8x128, .f32⟩
  | .hbm, ⟨39, _⟩ => ⟨S_, .i32⟩
  | .hbm, ⟨40, _⟩ => ⟨S_, .f32⟩
  | .hbm, ⟨41, _⟩ => ⟨S4x2176x8x128, .f32⟩
  | .hbm, ⟨42, _⟩ => ⟨S4x17x128x8x128, .f32⟩
  | .hbm, ⟨43, _⟩ => ⟨S4x16x128x8x128, .f32⟩
  | .hbm, ⟨44, _⟩ => ⟨S4x16x128x8x128, .f32⟩
  | .hbm, ⟨45, _⟩ => ⟨S4x16x256x8x128, .f32⟩
  | .hbm, ⟨46, _⟩ => ⟨S4x16x8x256x128x4, .f32⟩
  | .hbm, ⟨47, _⟩ => ⟨S4x16x8x4x128x256, .f32⟩
  | .hbm, ⟨48, _⟩ => ⟨S_, .f32⟩
  | .hbm, ⟨49, _⟩ => ⟨S4x16x8x4x128x256, .f32⟩
  | .hbm, ⟨50, _⟩ => ⟨S4x16x8x4x128x256, .f32⟩
  | .hbm, ⟨51, _⟩ => ⟨S16x128x1, .i32⟩
  | .hbm, ⟨52, _⟩ => ⟨S16x1x256, .i32⟩
  | .hbm, ⟨53, _⟩ => ⟨S16x128x256, .i32⟩
  | .hbm, ⟨54, _⟩ => ⟨S16x128x256, .i32⟩
  | .hbm, ⟨55, _⟩ => ⟨S16x128x256, .i1⟩
  | .hbm, ⟨56, _⟩ => ⟨S_, .i32⟩
  | .hbm, ⟨57, _⟩ => ⟨S16x128x1, .i32⟩
  | .hbm, ⟨58, _⟩ => ⟨S16x128x1, .i32⟩
  | .hbm, ⟨59, _⟩ => ⟨S16x128x256, .i32⟩
  | .hbm, ⟨60, _⟩ => ⟨S16x128x256, .i32⟩
  | .hbm, ⟨61, _⟩ => ⟨S16x128x256, .i1⟩
  | .hbm, ⟨62, _⟩ => ⟨S16x128x256, .i1⟩
  | .hbm, ⟨63, _⟩ => ⟨S_, .i32⟩
  | .hbm, ⟨64, _⟩ => ⟨S16x1x256, .i32⟩
  | .hbm, ⟨65, _⟩ => ⟨S16x1x256, .i1⟩
  | .hbm, ⟨66, _⟩ => ⟨S16x128x256, .i1⟩
  | .hbm, ⟨67, _⟩ => ⟨S16x128x256, .i1⟩
  | .hbm, ⟨68, _⟩ => ⟨S16x1x1x128x256, .i1⟩
  | .hbm, ⟨69, _⟩ => ⟨S8x4x1x1, .f32⟩
  | .hbm, ⟨70, _⟩ => ⟨S_, .f32⟩
  | .hbm, ⟨71, _⟩ => ⟨S_, .f32⟩
  | .hbm, ⟨72, _⟩ => ⟨S4x16x8x4x128x256, .i1⟩
  | .hbm, ⟨73, _⟩ => ⟨S4x16x8x4x128x256, .f32⟩
  | .hbm, ⟨74, _⟩ => ⟨S4x16x8x4x128x256, .f32⟩
  | .hbm, ⟨75, _⟩ => ⟨S_, .f32⟩
  | .hbm, ⟨76, _⟩ => ⟨S4x16x8x4x128, .f32⟩
  | .hbm, ⟨77, _⟩ => ⟨S4x16x8x4x128x1, .f32⟩
  | .hbm, ⟨78, _⟩ => ⟨S1x1x8x4x1x1, .f32⟩
  | .hbm, ⟨79, _⟩ => ⟨S4x16x8x4x128x1, .f32⟩
  | .hbm, ⟨80, _⟩ => ⟨S4x16x8x4x128x1, .f32⟩
  | .hbm, ⟨81, _⟩ => ⟨S4x16x8x4x128x256, .f32⟩
  | .hbm, ⟨82, _⟩ => ⟨S4x16x8x4x128x256, .f32⟩
  | .hbm, ⟨83, _⟩ => ⟨S4x16x8x4x128x256, .f32⟩
  | .hbm, ⟨84, _⟩ => ⟨S_, .f32⟩
  | .hbm, ⟨85, _⟩ => ⟨S4x16x8x4x128, .f32⟩
  | .hbm, ⟨86, _⟩ => ⟨S4x16x8x4x128x1, .f32⟩
  | .hbm, ⟨87, _⟩ => ⟨S1x1x8x4x1x1, .f32⟩
  | .hbm, ⟨88, _⟩ => ⟨S4x16x8x4x128x1, .f32⟩
  | .hbm, ⟨89, _⟩ => ⟨S4x16x8x4x128x1, .f32⟩
  | .hbm, ⟨90, _⟩ => ⟨S4x16x8x4x128x1, .f32⟩
  | .hbm, ⟨91, _⟩ => ⟨S4x16x8x4x128x1, .f32⟩
  | .hbm, ⟨92, _⟩ => ⟨S4x16x8x4x128x256, .f32⟩
  | .hbm, ⟨93, _⟩ => ⟨S4x16x8x4x128x256, .f32⟩
  | .hbm, ⟨94, _⟩ => ⟨S4x16x8x128x4x128, .f32⟩
  | .hbm, ⟨95, _⟩ => ⟨S4x16x128x8x4x128, .f32⟩
  | .hbm, ⟨96, _⟩ => ⟨S8192x4096, .f32⟩
  | .hbm, ⟨97, _⟩ => ⟨S8192x4096, .bf16⟩
  | _, _ => ⟨S32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_c : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_c_0 : Ref sig .tc := ⟨.hbm, 21, rfl⟩
abbrev main_v18 : Ref sig .tc := ⟨.hbm, 22, rfl⟩
abbrev main_v19 : Ref sig .tc := ⟨.hbm, 23, rfl⟩
abbrev main_c_1 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_c_2 : Ref sig .tc := ⟨.hbm, 32, rfl⟩
abbrev main_call0_v0 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_c_3 : Ref sig .tc := ⟨.hbm, 39, rfl⟩
abbrev main_call1_v0 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_cst : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_c_4 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_c_5 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_cst_6 : Ref sig .tc := ⟨.hbm, 70, rfl⟩
abbrev main_call2_v0 : Ref sig .tc := ⟨.hbm, 71, rfl⟩
abbrev main_call2_v1 : Ref sig .tc := ⟨.hbm, 72, rfl⟩
abbrev main_call2_v2 : Ref sig .tc := ⟨.hbm, 73, rfl⟩
abbrev main_v58 : Ref sig .tc := ⟨.hbm, 74, rfl⟩
abbrev main_cst_7 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_cst_8 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩

abbrev nD : Nat := 1
abbrev τ : Topo := Topo.v7x

variable {F : FTy → Type} [FloatOps F]
-- ==== GateUp.lean ====
abbrev S8320x4096 : Shape := ⟨2, ![8320, 4096]⟩
abbrev S2x4096x11008 : Shape := ⟨3, ![2, 4096, 11008]⟩
abbrev S2x11008x4096 : Shape := ⟨3, ![2, 11008, 4096]⟩
abbrev S8320x11264 : Shape := ⟨2, ![8320, 11264]⟩
abbrev S11264x4096 : Shape := ⟨2, ![11264, 4096]⟩
abbrev S2080x4096 : Shape := ⟨2, ![2080, 4096]⟩
abbrev S1x4096x256 : Shape := ⟨3, ![1, 4096, 256]⟩
abbrev S1x256x4096 : Shape := ⟨3, ![1, 256, 4096]⟩
abbrev S2080x256 : Shape := ⟨2, ![2080, 256]⟩
abbrev S256x4096 : Shape := ⟨2, ![256, 4096]⟩
abbrev S4096x256 : Shape := ⟨2, ![4096, 256]⟩

abbrev nBuf : Space → Nat
  | .hbm => 6
  | .vmem => 11
  | .smem => 0
  | _ => 0

abbrev bufTy : (tb : Table) → Fin (tcTables nBuf tb) → BufTy
  | .hbm, ⟨0, _⟩ => ⟨S8320x4096, .bf16⟩
  | .hbm, ⟨1, _⟩ => ⟨S2x4096x11008, .f32⟩
  | .hbm, ⟨2, _⟩ => ⟨S2x4096x11008, .f32⟩
  | .hbm, ⟨3, _⟩ => ⟨S2x11008x4096, .f32⟩
  | .hbm, ⟨4, _⟩ => ⟨S8320x11264, .bf16⟩
  | .hbm, ⟨5, _⟩ => ⟨S11264x4096, .bf16⟩
  | .local _ .vmem, ⟨0, _⟩ => ⟨S2080x4096, .bf16⟩
  | .local _ .vmem, ⟨1, _⟩ => ⟨S1x4096x256, .f32⟩
  | .local _ .vmem, ⟨2, _⟩ => ⟨S1x4096x256, .f32⟩
  | .local _ .vmem, ⟨3, _⟩ => ⟨S1x4096x256, .f32⟩
  | .local _ .vmem, ⟨4, _⟩ => ⟨S1x4096x256, .f32⟩
  | .local _ .vmem, ⟨5, _⟩ => ⟨S1x256x4096, .f32⟩
  | .local _ .vmem, ⟨6, _⟩ => ⟨S1x256x4096, .f32⟩
  | .local _ .vmem, ⟨7, _⟩ => ⟨S2080x256, .bf16⟩
  | .local _ .vmem, ⟨8, _⟩ => ⟨S2080x256, .bf16⟩
  | .local _ .vmem, ⟨9, _⟩ => ⟨S256x4096, .bf16⟩
  | .local _ .vmem, ⟨10, _⟩ => ⟨S256x4096, .bf16⟩
  | _, _ => ⟨S8320x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![4, 44], ![false, false]⟩

def k0_cond1 (i : grid0.Coords) : BitVec 1 :=
  let arg1 : BitVec 32 := BitVec.ofNat 32 (i 1).val
  let c43_i32 : BitVec 32 := 43#32
  let v0 : BitVec 1 := Scalar.cmpi .slt arg1 c43_i32
  let v1 : BitVec 32 := Scalar.extui v0
  let c0_i32 : BitVec 32 := 0#32
  let v2 : BitVec 1 := Scalar.cmpi .ne v1 c0_i32
  v2

def k0_cond2 (i : grid0.Coords) : BitVec 1 :=
  let arg1 : BitVec 32 := BitVec.ofNat 32 (i 1).val
  let c43_i32_0 : BitVec 32 := 43#32
  let v3 : BitVec 1 := Scalar.cmpi .sge arg1 c43_i32_0
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c0_i32_2 : BitVec 32 := 0#32
  let v6 : BitVec 1 := Scalar.cmpi .eq arg0 c0_i32_2
  let arg1 : BitVec 32 := BitVec.ofNat 32 (i 1).val
  let c43_i32_3 : BitVec 32 := 43#32
  let v7 : BitVec 1 := Scalar.cmpi .slt arg1 c43_i32_3
  let v8 : BitVec 1 := Scalar.andi v6 v7
  let v9 : BitVec 32 := Scalar.extui v8
  let c0_i32_4 : BitVec 32 := 0#32
  let v10 : BitVec 1 := Scalar.cmpi .ne v9 c0_i32_4
  v10

def k0_cond4 (i : grid0.Coords) : BitVec 1 :=
  let arg0 : BitVec 32 := BitVec.ofNat 32 (i 0).val
  let c0_i32_5 : BitVec 32 := 0#32
  let v11 : BitVec 1 := Scalar.cmpi .eq arg0 c0_i32_5
  let arg1 : BitVec 32 := BitVec.ofNat 32 (i 1).val
  let c43_i32_6 : BitVec 32 := 43#32
  let v12 : BitVec 1 := Scalar.cmpi .sge arg1 c43_i32_6
  let v13 : BitVec 1 := Scalar.andi v11 v12
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c42_i32 : BitVec 32 := 42#32
  let v0 : BitVec 32 := Scalar.minsi arg1 c42_i32
  let c0_i32 : BitVec 32 := 0#32
  let c0_i32_0 : BitVec 32 := 0#32
  let c0_i32_1 : BitVec 32 := 0#32
  ![c0_i32.toNat, c0_i32_0.toNat, v0.toNat]

def cc0_transform_2 (i : grid0.Coords) : Fin 3 → Nat :=
  let arg0 : BitVec 32 := BitVec.ofNat 32 (i 0).val
  let arg1 : BitVec 32 := BitVec.ofNat 32 (i 1).val
  let c42_i32 : BitVec 32 := 42#32
  let v0 : BitVec 32 := Scalar.minsi arg1 c42_i32
  let c0_i32 : BitVec 32 := 0#32
  let c0_i32_0 : BitVec 32 := 0#32
  let c0_i32_1 : BitVec 32 := 0#32
  ![c0_i32.toNat, c0_i32_0.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c42_i32 : BitVec 32 := 42#32
  let v1 : BitVec 32 := Scalar.minsi arg1 c42_i32
  let c42_i32_0 : BitVec 32 := 42#32
  let v2 : BitVec 32 := Scalar.select v0 v1 c42_i32_0
  let c0_i32_1 : BitVec 32 := 0#32
  let c0_i32_2 : BitVec 32 := 0#32
  let c0_i32_3 : BitVec 32 := 0#32
  ![c0_i32_1.toNat, v2.toNat, c0_i32_2.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c43_i32 : BitVec 32 := 43#32
  let v1 : BitVec 32 := Scalar.select v0 arg1 c43_i32
  let c0_i32_0 : BitVec 32 := 0#32
  let c0_i32_1 : BitVec 32 := 0#32
  ![v1.toNat, c0_i32_0.toNat]

abbrev stage0_0 : Fin 1 → Memref sig .tc .vmem S2080x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2080x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== GateUpRefIdeal.lean ====
abbrev S8320x4096 : Shape := ⟨2, ![8320, 4096]⟩
abbrev S2x4096x11008 : Shape := ⟨3, ![2, 4096, 11008]⟩
abbrev S2x11008x4096 : Shape := ⟨3, ![2, 11008, 4096]⟩
abbrev S1x4096x11008 : Shape := ⟨3, ![1, 4096, 11008]⟩
abbrev S4096x11008 : Shape := ⟨2, ![4096, 11008]⟩
abbrev S8320x11008 : Shape := ⟨2, ![8320, 11008]⟩
abbrev S_ : Shape := ⟨0, ![]⟩
abbrev S8320x11264 : Shape := ⟨2, ![8320, 11264]⟩
abbrev S1x11008x4096 : Shape := ⟨3, ![1, 11008, 4096]⟩
abbrev S11008x4096 : Shape := ⟨2, ![11008, 4096]⟩
abbrev S11264x4096 : Shape := ⟨2, ![11264, 4096]⟩

abbrev nBuf : Space → Nat
  | .hbm => 34
  | .vmem => 0
  | .smem => 0
  | _ => 0

abbrev bufTy : (tb : Table) → Fin (tcTables nBuf tb) → BufTy
  | .hbm, ⟨0, _⟩ => ⟨S8320x4096, .bf16⟩
  | .hbm, ⟨1, _⟩ => ⟨S2x4096x11008, .f32⟩
  | .hbm, ⟨2, _⟩ => ⟨S2x4096x11008, .f32⟩
  | .hbm, ⟨3, _⟩ => ⟨S2x11008x4096, .f32⟩
  | .hbm, ⟨4, _⟩ => ⟨S8320x4096, .f32⟩
  | .hbm, ⟨5, _⟩ => ⟨S1x4096x11008, .f32⟩
  | .hbm, ⟨6, _⟩ => ⟨S4096x11008, .f32⟩
  | .hbm, ⟨7, _⟩ => ⟨S8320x11008, .f32⟩
  | .hbm, ⟨8, _⟩ => ⟨S8320x11008, .f32⟩
  | .hbm, ⟨9, _⟩ => ⟨S8320x11008, .f32⟩
  | .hbm, ⟨10, _⟩ => ⟨S_, .f32⟩
  | .hbm, ⟨11, _⟩ => ⟨S8320x11008, .f32⟩
  | .hbm, ⟨12, _⟩ => ⟨S8320x11008, .f32⟩
  | .hbm, ⟨13, _⟩ => ⟨S_, .f32⟩
  | .hbm, ⟨14, _⟩ => ⟨S8320x11008, .f32⟩
  | .hbm, ⟨15, _⟩ => ⟨S8320x11008, .f32⟩
  | .hbm, ⟨16, _⟩ => ⟨S8320x11008, .f32⟩
  | .hbm, ⟨17, _⟩ => ⟨S1x4096x11008, .f32⟩
  | .hbm, ⟨18, _⟩ => ⟨S4096x11008, .f32⟩
  | .hbm, ⟨19, _⟩ => ⟨S8320x11008, .f32⟩
  | .hbm, ⟨20, _⟩ => ⟨S8320x11008, .f32⟩
  | .hbm, ⟨21, _⟩ => ⟨S_, .f32⟩
  | .hbm, ⟨22, _⟩ => ⟨S8320x11008, .f32⟩
  | .hbm, ⟨23, _⟩ => ⟨S8320x11008, .f32⟩
  | .hbm, ⟨24, _⟩ => ⟨S_, .i32⟩
  | .hbm, ⟨25, _⟩ => ⟨S_, .f32⟩
  | .hbm, ⟨26, _⟩ => ⟨S8320x11264, .f32⟩
  | .hbm, ⟨27, _⟩ => ⟨S8320x11264, .bf16⟩
  | .hbm, ⟨28, _⟩ => ⟨S1x11008x4096, .f32⟩
  | .hbm, ⟨29, _⟩ => ⟨S11008x4096, .f32⟩
  | .hbm, ⟨30, _⟩ => ⟨S_, .i32⟩
  | .hbm, ⟨31, _⟩ => ⟨S_, .f32⟩
  | .hbm, ⟨32, _⟩ => ⟨S11264x4096, .f32⟩
  | .hbm, ⟨33, _⟩ => ⟨S11264x4096, .bf16⟩
  | _, _ => ⟨S8320x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst : Ref sig .tc := ⟨.hbm, 21, rfl⟩
abbrev main_v9 : Ref sig .tc := ⟨.hbm, 22, rfl⟩
abbrev main_v10 : Ref sig .tc := ⟨.hbm, 23, rfl⟩
abbrev main_c : Ref sig .tc := ⟨.hbm, 24, rfl⟩
abbrev main_call1_v0 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_c_0 : Ref sig .tc := ⟨.hbm, 30, rfl⟩
abbrev main_call2_v0 : Ref sig .tc := ⟨.hbm, 31, rfl⟩
abbrev main_v15 : Ref sig .tc := ⟨.hbm, 32, rfl⟩
abbrev main_v16 : Ref sig .tc := ⟨.hbm, 33, rfl⟩

abbrev nD : Nat := 1
abbrev τ : Topo := Topo.v7x

variable {F : FTy → Type} [FloatOps F]
-- ==== Down.lean ====
abbrev S8320x11264 : Shape := ⟨2, ![8320, 11264]⟩
abbrev S1x11264x4096 : Shape := ⟨3, ![1, 11264, 4096]⟩
abbrev S8320x4096 : Shape := ⟨2, ![8320, 4096]⟩
abbrev S1040x2816 : Shape := ⟨2, ![1040, 2816]⟩
abbrev S1x2816x1024 : Shape := ⟨3, ![1, 2816, 1024]⟩
abbrev S1040x1024 : Shape := ⟨2, ![1040, 1024]⟩
abbrev S2816x1024 : Shape := ⟨2, ![2816, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8320x11264, .bf16⟩
  | .hbm, ⟨1, _⟩ => ⟨S1x11264x4096, .bf16⟩
  | .hbm, ⟨2, _⟩ => ⟨S8320x4096, .f32⟩
  | .hbm, ⟨3, _⟩ => ⟨S8320x4096, .f32⟩
  | .local _ .vmem, ⟨0, _⟩ => ⟨S1040x2816, .bf16⟩
  | .local _ .vmem, ⟨1, _⟩ => ⟨S1040x2816, .bf16⟩
  | .local _ .vmem, ⟨2, _⟩ => ⟨S1x2816x1024, .bf16⟩
  | .local _ .vmem, ⟨3, _⟩ => ⟨S1x2816x1024, .bf16⟩
  | .local _ .vmem, ⟨4, _⟩ => ⟨S1040x1024, .f32⟩
  | .local _ .vmem, ⟨5, _⟩ => ⟨S1040x1024, .f32⟩
  | .local _ .vmem, ⟨6, _⟩ => ⟨S1040x1024, .f32⟩
  | .local _ .vmem, ⟨7, _⟩ => ⟨S1040x1024, .f32⟩
  | _, _ => ⟨S8320x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 4], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg2 : BitVec 32 := BitVec.ofNat 32 (i 2).val
  let c0_i32_1 : BitVec 32 := 0#32
  let v3 : BitVec 1 := Scalar.cmpi .sgt arg2 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1040x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1040x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1040x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownRefIdeal.lean ====
abbrev S8320x11264 : Shape := ⟨2, ![8320, 11264]⟩
abbrev S1x11264x4096 : Shape := ⟨3, ![1, 11264, 4096]⟩
abbrev S8320x4096 : Shape := ⟨2, ![8320, 4096]⟩
abbrev S11264x4096 : Shape := ⟨2, ![11264, 4096]⟩

abbrev nBuf : Space → Nat
  | .hbm => 8
  | .vmem => 0
  | .smem => 0
  | _ => 0

abbrev bufTy : (tb : Table) → Fin (tcTables nBuf tb) → BufTy
  | .hbm, ⟨0, _⟩ => ⟨S8320x11264, .bf16⟩
  | .hbm, ⟨1, _⟩ => ⟨S1x11264x4096, .bf16⟩
  | .hbm, ⟨2, _⟩ => ⟨S8320x4096, .f32⟩
  | .hbm, ⟨3, _⟩ => ⟨S8320x11264, .f32⟩
  | .hbm, ⟨4, _⟩ => ⟨S11264x4096, .bf16⟩
  | .hbm, ⟨5, _⟩ => ⟨S11264x4096, .f32⟩
  | .hbm, ⟨6, _⟩ => ⟨S8320x4096, .f32⟩
  | .hbm, ⟨7, _⟩ => ⟨S8320x4096, .f32⟩
  | _, _ => ⟨S8320x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Out.lean ====
abbrev S8320x4096 : Shape := ⟨2, ![8320, 4096]⟩
abbrev S1x4096x4096 : Shape := ⟨3, ![1, 4096, 4096]⟩
abbrev S1040x2048 : Shape := ⟨2, ![1040, 2048]⟩
abbrev S1x2048x1024 : Shape := ⟨3, ![1, 2048, 1024]⟩
abbrev S1040x1024 : Shape := ⟨2, ![1040, 1024]⟩
abbrev S2048x1024 : Shape := ⟨2, ![2048, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8320x4096, .bf16⟩
  | .hbm, ⟨1, _⟩ => ⟨S1x4096x4096, .bf16⟩
  | .hbm, ⟨2, _⟩ => ⟨S8320x4096, .f32⟩
  | .hbm, ⟨3, _⟩ => ⟨S8320x4096, .f32⟩
  | .local _ .vmem, ⟨0, _⟩ => ⟨S1040x2048, .bf16⟩
  | .local _ .vmem, ⟨1, _⟩ => ⟨S1040x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1040x1024, .f32⟩
  | .local _ .vmem, ⟨5, _⟩ => ⟨S1040x1024, .f32⟩
  | .local _ .vmem, ⟨6, _⟩ => ⟨S1040x1024, .f32⟩
  | .local _ .vmem, ⟨7, _⟩ => ⟨S1040x1024, .f32⟩
  | _, _ => ⟨S8320x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 2], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg2 : BitVec 32 := BitVec.ofNat 32 (i 2).val
  let c0_i32_1 : BitVec 32 := 0#32
  let v3 : BitVec 1 := Scalar.cmpi .sgt arg2 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1040x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1040x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1040x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== OutRefIdeal.lean ====
abbrev S8320x4096 : Shape := ⟨2, ![8320, 4096]⟩
abbrev S1x4096x4096 : Shape := ⟨3, ![1, 4096, 4096]⟩
abbrev S4096x4096 : Shape := ⟨2, ![4096, 4096]⟩

abbrev nBuf : Space → Nat
  | .hbm => 8
  | .vmem => 0
  | .smem => 0
  | _ => 0

abbrev bufTy : (tb : Table) → Fin (tcTables nBuf tb) → BufTy
  | .hbm, ⟨0, _⟩ => ⟨S8320x4096, .bf16⟩
  | .hbm, ⟨1, _⟩ => ⟨S1x4096x4096, .bf16⟩
  | .hbm, ⟨2, _⟩ => ⟨S8320x4096, .f32⟩
  | .hbm, ⟨3, _⟩ => ⟨S8320x4096, .f32⟩
  | .hbm, ⟨4, _⟩ => ⟨S4096x4096, .bf16⟩
  | .hbm, ⟨5, _⟩ => ⟨S4096x4096, .f32⟩
  | .hbm, ⟨6, _⟩ => ⟨S8320x4096, .f32⟩
  | .hbm, ⟨7, _⟩ => ⟨S8320x4096, .f32⟩
  | _, _ => ⟨S8320x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Qkv.lean ====
abbrev S8320x4096 : Shape := ⟨2, ![8320, 4096]⟩
abbrev S1x4096x6144 : Shape := ⟨3, ![1, 4096, 6144]⟩
abbrev S8320 : Shape := ⟨1, ![8320]⟩
abbrev S64 : Shape := ⟨1, ![64]⟩
abbrev S_ : Shape := ⟨0, ![]⟩
abbrev S8320x1 : Shape := ⟨2, ![8320, 1]⟩
abbrev S1x64 : Shape := ⟨2, ![1, 64]⟩
abbrev S8320x64 : Shape := ⟨2, ![8320, 64]⟩
abbrev S8320x128 : Shape := ⟨2, ![8320, 128]⟩
abbrev S8320x6144 : Shape := ⟨2, ![8320, 6144]⟩
abbrev S1040x4096 : Shape := ⟨2, ![1040, 4096]⟩
abbrev S1x4096x1024 : Shape := ⟨3, ![1, 4096, 1024]⟩
abbrev S1040x128 : Shape := ⟨2, ![1040, 128]⟩
abbrev S1040x1024 : Shape := ⟨2, ![1040, 1024]⟩
abbrev S4096x1024 : Shape := ⟨2, ![4096, 1024]⟩

abbrev nBuf : Space → Nat
  | .hbm => 29
  | .vmem => 10
  | .smem => 0
  | _ => 0

abbrev bufTy : (tb : Table) → Fin (tcTables nBuf tb) → BufTy
  | .hbm, ⟨0, _⟩ => ⟨S8320x4096, .bf16⟩
  | .hbm, ⟨1, _⟩ => ⟨S1x4096x6144, .bf16⟩
  | .hbm, ⟨2, _⟩ => ⟨S8320, .i32⟩
  | .hbm, ⟨3, _⟩ => ⟨S64, .f32⟩
  | .hbm, ⟨4, _⟩ => ⟨S_, .f32⟩
  | .hbm, ⟨5, _⟩ => ⟨S64, .f32⟩
  | .hbm, ⟨6, _⟩ => ⟨S64, .f32⟩
  | .hbm, ⟨7, _⟩ => ⟨S_, .f32⟩
  | .hbm, ⟨8, _⟩ => ⟨S64, .f32⟩
  | .hbm, ⟨9, _⟩ => ⟨S64, .f32⟩
  | .hbm, ⟨10, _⟩ => ⟨S64, .f32⟩
  | .hbm, ⟨11, _⟩ => ⟨S_, .f32⟩
  | .hbm, ⟨12, _⟩ => ⟨S64, .f32⟩
  | .hbm, ⟨13, _⟩ => ⟨S64, .f32⟩
  | .hbm, ⟨14, _⟩ => ⟨S_, .f32⟩
  | .hbm, ⟨15, _⟩ => ⟨S64, .f32⟩
  | .hbm, ⟨16, _⟩ => ⟨S64, .f32⟩
  | .hbm, ⟨17, _⟩ => ⟨S8320, .f32⟩
  | .hbm, ⟨18, _⟩ => ⟨S8320x1, .f32⟩
  | .hbm, ⟨19, _⟩ => ⟨S1x64, .f32⟩
  | .hbm, ⟨20, _⟩ => ⟨S8320x64, .f32⟩
  | .hbm, ⟨21, _⟩ => ⟨S8320x64, .f32⟩
  | .hbm, ⟨22, _⟩ => ⟨S8320x64, .f32⟩
  | .hbm, ⟨23, _⟩ => ⟨S8320x64, .f32⟩
  | .hbm, ⟨24, _⟩ => ⟨S8320x64, .f32⟩
  | .hbm, ⟨25, _⟩ => ⟨S8320x128, .f32⟩
  | .hbm, ⟨26, _⟩ => ⟨S8320x64, .f32⟩
  | .hbm, ⟨27, _⟩ => ⟨S8320x128, .f32⟩
  | .hbm, ⟨28, _⟩ => ⟨S8320x6144, .f32⟩
  | .local _ .vmem, ⟨0, _⟩ => ⟨S1040x4096, .bf16⟩
  | .local _ .vmem, ⟨1, _⟩ => ⟨S1040x4096, .bf16⟩
  | .local _ .vmem, ⟨2, _⟩ => ⟨S1x4096x1024, .bf16⟩
  | .local _ .vmem, ⟨3, _⟩ => ⟨S1x4096x1024, .bf16⟩
  | .local _ .vmem, ⟨4, _⟩ => ⟨S1040x128, .f32⟩
  | .local _ .vmem, ⟨5, _⟩ => ⟨S1040x128, .f32⟩
  | .local _ .vmem, ⟨6, _⟩ => ⟨S1040x128, .f32⟩
  | .local _ .vmem, ⟨7, _⟩ => ⟨S1040x128, .f32⟩
  | .local _ .vmem, ⟨8, _⟩ => ⟨S1040x1024, .f32⟩
  | .local _ .vmem, ⟨9, _⟩ => ⟨S1040x1024, .f32⟩
  | _, _ => ⟨S8320x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 6], ![false, false]⟩

def k0_cond1 (i : grid0.Coords) : BitVec 1 :=
  let arg1 : BitVec 32 := BitVec.ofNat 32 (i 1).val
  let c5_i32 : BitVec 32 := 5#32
  let v4 : BitVec 1 := Scalar.cmpi .slt arg1 c5_i32
  let v5 : BitVec 32 := Scalar.extui v4
  let c0_i32 : BitVec 32 := 0#32
  let v6 : BitVec 1 := Scalar.cmpi .ne v5 c0_i32
  v6

def k0_cond2 (i : grid0.Coords) : BitVec 1 :=
  let arg1 : BitVec 32 := BitVec.ofNat 32 (i 1).val
  let c5_i32_4 : BitVec 32 := 5#32
  let v7 : BitVec 1 := Scalar.cmpi .sge arg1 c5_i32_4
  let v8 : BitVec 32 := Scalar.extui v7
  let c0_i32_5 : BitVec 32 := 0#32
  let v9 : BitVec 1 := Scalar.cmpi .ne v8 c0_i32_5
  v9

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1040x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1040x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1040x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1040x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== QkvRefIdeal.lean ====
abbrev S8320x4096 : Shape := ⟨2, ![8320, 4096]⟩
abbrev S1x4096x6144 : Shape := ⟨3, ![1, 4096, 6144]⟩
abbrev S8320 : Shape := ⟨1, ![8320]⟩
abbrev S4096x6144 : Shape := ⟨2, ![4096, 6144]⟩
abbrev S8320x6144 : Shape := ⟨2, ![8320, 6144]⟩
abbrev S8320x32x128 : Shape := ⟨3, ![8320, 32, 128]⟩
abbrev S8320x1024 : Shape := ⟨2, ![8320, 1024]⟩
abbrev S8320x8x128 : Shape := ⟨3, ![8320, 8, 128]⟩
abbrev S64 : Shape := ⟨1, ![64]⟩
abbrev S_ : Shape := ⟨0, ![]⟩
abbrev S8320x1 : Shape := ⟨2, ![8320, 1]⟩
abbrev S1x64 : Shape := ⟨2, ![1, 64]⟩
abbrev S8320x64 : Shape := ⟨2, ![8320, 64]⟩
abbrev S8320x1x64 : Shape := ⟨3, ![8320, 1, 64]⟩
abbrev S8320x32x64 : Shape := ⟨3, ![8320, 32, 64]⟩
abbrev S8320x8x64 : Shape := ⟨3, ![8320, 8, 64]⟩

abbrev nBuf : Space → Nat
  | .hbm => 89
  | .vmem => 0
  | .smem => 0
  | _ => 0

abbrev bufTy : (tb : Table) → Fin (tcTables nBuf tb) → BufTy
  | .hbm, ⟨0, _⟩ => ⟨S8320x4096, .bf16⟩
  | .hbm, ⟨1, _⟩ => ⟨S1x4096x6144, .bf16⟩
  | .hbm, ⟨2, _⟩ => ⟨S8320, .i32⟩
  | .hbm, ⟨3, _⟩ => ⟨S8320x4096, .f32⟩
  | .hbm, ⟨4, _⟩ => ⟨S4096x6144, .bf16⟩
  | .hbm, ⟨5, _⟩ => ⟨S4096x6144, .f32⟩
  | .hbm, ⟨6, _⟩ => ⟨S8320x6144, .f32⟩
  | .hbm, ⟨7, _⟩ => ⟨S8320x4096, .f32⟩
  | .hbm, ⟨8, _⟩ => ⟨S8320x32x128, .f32⟩
  | .hbm, ⟨9, _⟩ => ⟨S8320x1024, .f32⟩
  | .hbm, ⟨10, _⟩ => ⟨S8320x8x128, .f32⟩
  | .hbm, ⟨11, _⟩ => ⟨S8320x1024, .f32⟩
  | .hbm, ⟨12, _⟩ => ⟨S64, .f32⟩
  | .hbm, ⟨13, _⟩ => ⟨S_, .f32⟩
  | .hbm, ⟨14, _⟩ => ⟨S64, .f32⟩
  | .hbm, ⟨15, _⟩ => ⟨S64, .f32⟩
  | .hbm, ⟨16, _⟩ => ⟨S_, .f32⟩
  | .hbm, ⟨17, _⟩ => ⟨S64, .f32⟩
  | .hbm, ⟨18, _⟩ => ⟨S64, .f32⟩
  | .hbm, ⟨19, _⟩ => ⟨S64, .f32⟩
  | .hbm, ⟨20, _⟩ => ⟨S_, .f32⟩
  | .hbm, ⟨21, _⟩ => ⟨S64, .f32⟩
  | .hbm, ⟨22, _⟩ => ⟨S64, .f32⟩
  | .hbm, ⟨23, _⟩ => ⟨S_, .f32⟩
  | .hbm, ⟨24, _⟩ => ⟨S64, .f32⟩
  | .hbm, ⟨25, _⟩ => ⟨S64, .f32⟩
  | .hbm, ⟨26, _⟩ => ⟨S8320, .f32⟩
  | .hbm, ⟨27, _⟩ => ⟨S8320x1, .f32⟩
  | .hbm, ⟨28, _⟩ => ⟨S1x64, .f32⟩
  | .hbm, ⟨29, _⟩ => ⟨S8320x64, .f32⟩
  | .hbm, ⟨30, _⟩ => ⟨S8320x64, .f32⟩
  | .hbm, ⟨31, _⟩ => ⟨S8320x64, .f32⟩
  | .hbm, ⟨32, _⟩ => ⟨S8320x64, .f32⟩
  | .hbm, ⟨33, _⟩ => ⟨S8320x1x64, .f32⟩
  | .hbm, ⟨34, _⟩ => ⟨S8320x64, .f32⟩
  | .hbm, ⟨35, _⟩ => ⟨S8320x1x64, .f32⟩
  | .hbm, ⟨36, _⟩ => ⟨S8320x32x64, .f32⟩
  | .hbm, ⟨37, _⟩ => ⟨S8320x32x64, .f32⟩
  | .hbm, ⟨38, _⟩ => ⟨S8320x32x64, .f32⟩
  | .hbm, ⟨39, _⟩ => ⟨S8320x32x64, .f32⟩
  | .hbm, ⟨40, _⟩ => ⟨S8320x32x64, .f32⟩
  | .hbm, ⟨41, _⟩ => ⟨S8320x32x64, .f32⟩
  | .hbm, ⟨42, _⟩ => ⟨S8320x32x64, .f32⟩
  | .hbm, ⟨43, _⟩ => ⟨S8320x32x64, .f32⟩
  | .hbm, ⟨44, _⟩ => ⟨S8320x32x64, .f32⟩
  | .hbm, ⟨45, _⟩ => ⟨S8320x32x64, .f32⟩
  | .hbm, ⟨46, _⟩ => ⟨S8320x32x64, .f32⟩
  | .hbm, ⟨47, _⟩ => ⟨S8320x32x64, .f32⟩
  | .hbm, ⟨48, _⟩ => ⟨S8320x32x128, .f32⟩
  | .hbm, ⟨49, _⟩ => ⟨S8320x4096, .f32⟩
  | .hbm, ⟨50, _⟩ => ⟨S64, .f32⟩
  | .hbm, ⟨51, _⟩ => ⟨S_, .f32⟩
  | .hbm, ⟨52, _⟩ => ⟨S64, .f32⟩
  | .hbm, ⟨53, _⟩ => ⟨S64, .f32⟩
  | .hbm, ⟨54, _⟩ => ⟨S_, .f32⟩
  | .hbm, ⟨55, _⟩ => ⟨S64, .f32⟩
  | .hbm, ⟨56, _⟩ => ⟨S64, .f32⟩
  | .hbm, ⟨57, _⟩ => ⟨S64, .f32⟩
  | .hbm, ⟨58, _⟩ => ⟨S_, .f32⟩
  | .hbm, ⟨59, _⟩ => ⟨S64, .f32⟩
  | .hbm, ⟨60, _⟩ => ⟨S64, .f32⟩
  | .hbm, ⟨61, _⟩ => ⟨S_, .f32⟩
  | .hbm, ⟨62, _⟩ => ⟨S64, .f32⟩
  | .hbm, ⟨63, _⟩ => ⟨S64, .f32⟩
  | .hbm, ⟨64, _⟩ => ⟨S8320, .f32⟩
  | .hbm, ⟨65, _⟩ => ⟨S8320x1, .f32⟩
  | .hbm, ⟨66, _⟩ => ⟨S1x64, .f32⟩
  | .hbm, ⟨67, _⟩ => ⟨S8320x64, .f32⟩
  | .hbm, ⟨68, _⟩ => ⟨S8320x64, .f32⟩
  | .hbm, ⟨69, _⟩ => ⟨S8320x64, .f32⟩
  | .hbm, ⟨70, _⟩ => ⟨S8320x64, .f32⟩
  | .hbm, ⟨71, _⟩ => ⟨S8320x1x64, .f32⟩
  | .hbm, ⟨72, _⟩ => ⟨S8320x64, .f32⟩
  | .hbm, ⟨73, _⟩ => ⟨S8320x1x64, .f32⟩
  | .hbm, ⟨74, _⟩ => ⟨S8320x8x64, .f32⟩
  | .hbm, ⟨75, _⟩ => ⟨S8320x8x64, .f32⟩
  | .hbm, ⟨76, _⟩ => ⟨S8320x8x64, .f32⟩
  | .hbm, ⟨77, _⟩ => ⟨S8320x8x64, .f32⟩
  | .hbm, ⟨78, _⟩ => ⟨S8320x8x64, .f32⟩
  | .hbm, ⟨79, _⟩ => ⟨S8320x8x64, .f32⟩
  | .hbm, ⟨80, _⟩ => ⟨S8320x8x64, .f32⟩
  | .hbm, ⟨81, _⟩ => ⟨S8320x8x64, .f32⟩
  | .hbm, ⟨82, _⟩ => ⟨S8320x8x64, .f32⟩
  | .hbm, ⟨83, _⟩ => ⟨S8320x8x64, .f32⟩
  | .hbm, ⟨84, _⟩ => ⟨S8320x8x64, .f32⟩
  | .hbm, ⟨85, _⟩ => ⟨S8320x8x64, .f32⟩
  | .hbm, ⟨86, _⟩ => ⟨S8320x8x128, .f32⟩
  | .hbm, ⟨87, _⟩ => ⟨S8320x1024, .f32⟩
  | .hbm, ⟨88, _⟩ => ⟨S8320x6144, .f32⟩
  | _, _ => ⟨S8320x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_cst_3 : Ref sig .tc := ⟨.hbm, 51, rfl⟩
abbrev main_v44 : Ref sig .tc := ⟨.hbm, 52, rfl⟩
abbrev main_v45 : Ref sig .tc := ⟨.hbm, 53, rfl⟩
abbrev main_cst_4 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_cst_5 : Ref sig .tc := ⟨.hbm, 58, rfl⟩
abbrev main_v49 : Ref sig .tc := ⟨.hbm, 59, rfl⟩
abbrev main_v50 : Ref sig .tc := ⟨.hbm, 60, rfl⟩
abbrev main_cst_6 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩

abbrev nD : Nat := 1
abbrev τ : Topo := Topo.v7x

variable {F : FTy → Type} [FloatOps F]
-- ==== Side.lean ====
abbrev S8320x11264 : Shape := ⟨2, ![8320, 11264]⟩
abbrev S1x11264x4096 : Shape := ⟨3, ![1, 11264, 4096]⟩
abbrev S8320x4096 : Shape := ⟨2, ![8320, 4096]⟩
abbrev S2x4096x6144 : Shape := ⟨3, ![2, 4096, 6144]⟩
abbrev S2x4096x4096 : Shape := ⟨3, ![2, 4096, 4096]⟩
abbrev S4096x6144 : Shape := ⟨2, ![4096, 6144]⟩
abbrev S4096x4096 : Shape := ⟨2, ![4096, 4096]⟩
abbrev S1040x2816 : Shape := ⟨2, ![1040, 2816]⟩
abbrev S1x2816x1024 : Shape := ⟨3, ![1, 2816, 1024]⟩
abbrev S1040x1024 : Shape := ⟨2, ![1040, 1024]⟩
abbrev S1x32x6144 : Shape := ⟨3, ![1, 32, 6144]⟩
abbrev S1x32x4096 : Shape := ⟨3, ![1, 32, 4096]⟩
abbrev S32x6144 : Shape := ⟨2, ![32, 6144]⟩
abbrev S32x4096 : Shape := ⟨2, ![32, 4096]⟩
abbrev S2816x1024 : Shape := ⟨2, ![2816, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8320x11264, .bf16⟩
  | .hbm, ⟨1, _⟩ => ⟨S1x11264x4096, .bf16⟩
  | .hbm, ⟨2, _⟩ => ⟨S8320x4096, .f32⟩
  | .hbm, ⟨3, _⟩ => ⟨S2x4096x6144, .f32⟩
  | .hbm, ⟨4, _⟩ => ⟨S2x4096x4096, .f32⟩
  | .hbm, ⟨5, _⟩ => ⟨S8320x4096, .f32⟩
  | .hbm, ⟨6, _⟩ => ⟨S4096x6144, .bf16⟩
  | .hbm, ⟨7, _⟩ => ⟨S4096x4096, .bf16⟩
  | .local _ .vmem, ⟨0, _⟩ => ⟨S1040x2816, .bf16⟩
  | .local _ .vmem, ⟨1, _⟩ => ⟨S1040x2816, .bf16⟩
  | .local _ .vmem, ⟨2, _⟩ => ⟨S1x2816x1024, .bf16⟩
  | .local _ .vmem, ⟨3, _⟩ => ⟨S1x2816x1024, .bf16⟩
  | .local _ .vmem, ⟨4, _⟩ => ⟨S1040x1024, .f32⟩
  | .local _ .vmem, ⟨5, _⟩ => ⟨S1040x1024, .f32⟩
  | .local _ .vmem, ⟨6, _⟩ => ⟨S1x32x6144, .f32⟩
  | .local _ .vmem, ⟨7, _⟩ => ⟨S1x32x6144, .f32⟩
  | .local _ .vmem, ⟨8, _⟩ => ⟨S1x32x4096, .f32⟩
  | .local _ .vmem, ⟨9, _⟩ => ⟨S1x32x4096, .f32⟩
  | .local _ .vmem, ⟨10, _⟩ => ⟨S1040x1024, .f32⟩
  | .local _ .vmem, ⟨11, _⟩ => ⟨S1040x1024, .f32⟩
  | .local _ .vmem, ⟨12, _⟩ => ⟨S32x6144, .bf16⟩
  | .local _ .vmem, ⟨13, _⟩ => ⟨S32x6144, .bf16⟩
  | .local _ .vmem, ⟨14, _⟩ => ⟨S32x4096, .bf16⟩
  | .local _ .vmem, ⟨15, _⟩ => ⟨S32x4096, .bf16⟩
  | _, _ => ⟨S8320x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨3, ![8, 4, 4], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg2 : BitVec 32 := BitVec.ofNat 32 (i 2).val
  let c0_i32_1 : BitVec 32 := 0#32
  let v3 : BitVec 1 := Scalar.cmpi .sgt arg2 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c4_i32_0 : BitVec 32 := 4#32
  let v2 : BitVec 32 := Scalar.muli v1 c4_i32_0
  let v3 : BitVec 32 := Scalar.addi v2 arg2
  let c0_i32 : BitVec 32 := 0#32
  let c0_i32_1 : BitVec 32 := 0#32
  let c0_i32_2 : BitVec 32 := 0#32
  ![c0_i32.toNat, v3.toNat, c0_i32_1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c4_i32_0 : BitVec 32 := 4#32
  let v2 : BitVec 32 := Scalar.muli v1 c4_i32_0
  let v3 : BitVec 32 := Scalar.addi v2 arg2
  let c0_i32 : BitVec 32 := 0#32
  let c0_i32_1 : BitVec 32 := 0#32
  let c0_i32_2 : BitVec 32 := 0#32
  ![c0_i32.toNat, v3.toNat, c0_i32_1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c4_i32_0 : BitVec 32 := 4#32
  let v2 : BitVec 32 := Scalar.muli v1 c4_i32_0
  let v3 : BitVec 32 := Scalar.addi v2 arg2
  let c0_i32 : BitVec 32 := 0#32
  let c0_i32_1 : BitVec 32 := 0#32
  ![v3.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c4_i32_0 : BitVec 32 := 4#32
  let v2 : BitVec 32 := Scalar.muli v1 c4_i32_0
  let v3 : BitVec 32 := Scalar.addi v2 arg2
  let c0_i32 : BitVec 32 := 0#32
  let c0_i32_1 : BitVec 32 := 0#32
  ![v3.toNat, c0_i32.toNat]

abbrev stage0_0 : Fin 2 → Memref sig .tc .vmem S1040x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1040x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x32x6144 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x32x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1040x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S32x6144 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S32x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== SideRefIdeal.lean ====
abbrev S8320x11264 : Shape := ⟨2, ![8320, 11264]⟩
abbrev S1x11264x4096 : Shape := ⟨3, ![1, 11264, 4096]⟩
abbrev S8320x4096 : Shape := ⟨2, ![8320, 4096]⟩
abbrev S2x4096x6144 : Shape := ⟨3, ![2, 4096, 6144]⟩
abbrev S2x4096x4096 : Shape := ⟨3, ![2, 4096, 4096]⟩
abbrev S11264x4096 : Shape := ⟨2, ![11264, 4096]⟩
abbrev S1x4096x6144 : Shape := ⟨3, ![1, 4096, 6144]⟩
abbrev S4096x6144 : Shape := ⟨2, ![4096, 6144]⟩
abbrev S1x4096x4096 : Shape := ⟨3, ![1, 4096, 4096]⟩
abbrev S4096x4096 : Shape := ⟨2, ![4096, 4096]⟩

abbrev nBuf : Space → Nat
  | .hbm => 16
  | .vmem => 0
  | .smem => 0
  | _ => 0

abbrev bufTy : (tb : Table) → Fin (tcTables nBuf tb) → BufTy
  | .hbm, ⟨0, _⟩ => ⟨S8320x11264, .bf16⟩
  | .hbm, ⟨1, _⟩ => ⟨S1x11264x4096, .bf16⟩
  | .hbm, ⟨2, _⟩ => ⟨S8320x4096, .f32⟩
  | .hbm, ⟨3, _⟩ => ⟨S2x4096x6144, .f32⟩
  | .hbm, ⟨4, _⟩ => ⟨S2x4096x4096, .f32⟩
  | .hbm, ⟨5, _⟩ => ⟨S8320x11264, .f32⟩
  | .hbm, ⟨6, _⟩ => ⟨S11264x4096, .bf16⟩
  | .hbm, ⟨7, _⟩ => ⟨S11264x4096, .f32⟩
  | .hbm, ⟨8, _⟩ => ⟨S8320x4096, .f32⟩
  | .hbm, ⟨9, _⟩ => ⟨S8320x4096, .f32⟩
  | .hbm, ⟨10, _⟩ => ⟨S1x4096x6144, .f32⟩
  | .hbm, ⟨11, _⟩ => ⟨S4096x6144, .f32⟩
  | .hbm, ⟨12, _⟩ => ⟨S4096x6144, .bf16⟩
  | .hbm, ⟨13, _⟩ => ⟨S1x4096x4096, .f32⟩
  | .hbm, ⟨14, _⟩ => ⟨S4096x4096, .f32⟩
  | .hbm, ⟨15, _⟩ => ⟨S4096x4096, .bf16⟩
  | _, _ => ⟨S8320x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]
-- ==== Norm.lean ====
abbrev S8320x4096 : Shape := ⟨2, ![8320, 4096]⟩
abbrev S4096 : Shape := ⟨1, ![4096]⟩
abbrev S1x4096 : Shape := ⟨2, ![1, 4096]⟩
abbrev S416x4096 : Shape := ⟨2, ![416, 4096]⟩
abbrev S416 : Shape := ⟨1, ![416]⟩
abbrev S416x1 : Shape := ⟨2, ![416, 1]⟩

abbrev nBuf : Space → Nat
  | .hbm => 4
  | .vmem => 5
  | .smem => 0
  | _ => 0

abbrev bufTy : (tb : Table) → Fin (tcTables nBuf tb) → BufTy
  | .hbm, ⟨0, _⟩ => ⟨S8320x4096, .f32⟩
  | .hbm, ⟨1, _⟩ => ⟨S4096, .f32⟩
  | .hbm, ⟨2, _⟩ => ⟨S1x4096, .f32⟩
  | .hbm, ⟨3, _⟩ => ⟨S8320x4096, .bf16⟩
  | .local _ .vmem, ⟨0, _⟩ => ⟨S416x4096, .f32⟩
  | .local _ .vmem, ⟨1, _⟩ => ⟨S416x4096, .f32⟩
  | .local _ .vmem, ⟨2, _⟩ => ⟨S1x4096, .f32⟩
  | .local _ .vmem, ⟨3, _⟩ => ⟨S416x4096, .bf16⟩
  | .local _ .vmem, ⟨4, _⟩ => ⟨S416x4096, .bf16⟩
  | _, _ => ⟨S8320x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S416x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S416x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormRefIdeal.lean ====
abbrev S8320x4096 : Shape := ⟨2, ![8320, 4096]⟩
abbrev S4096 : Shape := ⟨1, ![4096]⟩
abbrev S_ : Shape := ⟨0, ![]⟩
abbrev S8320 : Shape := ⟨1, ![8320]⟩
abbrev S8320x1 : Shape := ⟨2, ![8320, 1]⟩
abbrev S1x4096 : Shape := ⟨2, ![1, 4096]⟩

abbrev nBuf : Space → Nat
  | .hbm => 19
  | .vmem => 0
  | .smem => 0
  | _ => 0

abbrev bufTy : (tb : Table) → Fin (tcTables nBuf tb) → BufTy
  | .hbm, ⟨0, _⟩ => ⟨S8320x4096, .f32⟩
  | .hbm, ⟨1, _⟩ => ⟨S4096, .f32⟩
  | .hbm, ⟨2, _⟩ => ⟨S8320x4096, .f32⟩
  | .hbm, ⟨3, _⟩ => ⟨S_, .f32⟩
  | .hbm, ⟨4, _⟩ => ⟨S8320, .f32⟩
  | .hbm, ⟨5, _⟩ => ⟨S8320x1, .f32⟩
  | .hbm, ⟨6, _⟩ => ⟨S_, .f32⟩
  | .hbm, ⟨7, _⟩ => ⟨S8320x1, .f32⟩
  | .hbm, ⟨8, _⟩ => ⟨S8320x1, .f32⟩
  | .hbm, ⟨9, _⟩ => ⟨S_, .f32⟩
  | .hbm, ⟨10, _⟩ => ⟨S8320x1, .f32⟩
  | .hbm, ⟨11, _⟩ => ⟨S8320x1, .f32⟩
  | .hbm, ⟨12, _⟩ => ⟨S8320x1, .f32⟩
  | .hbm, ⟨13, _⟩ => ⟨S8320x4096, .f32⟩
  | .hbm, ⟨14, _⟩ => ⟨S8320x4096, .f32⟩
  | .hbm, ⟨15, _⟩ => ⟨S1x4096, .f32⟩
  | .hbm, ⟨16, _⟩ => ⟨S8320x4096, .f32⟩
  | .hbm, ⟨17, _⟩ => ⟨S8320x4096, .f32⟩
  | .hbm, ⟨18, _⟩ => ⟨S8320x4096, .bf16⟩
  | _, _ => ⟨S8320x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== YPrompt.lean ====
abbrev S8320x4096 : Shape := ⟨2, ![8320, 4096]⟩
abbrev S4096 : Shape := ⟨1, ![4096]⟩
abbrev S1x4096 : Shape := ⟨2, ![1, 4096]⟩
abbrev S8192x4096 : Shape := ⟨2, ![8192, 4096]⟩
abbrev S512x4096 : Shape := ⟨2, ![512, 4096]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S8320x4096, .f32⟩
  | .hbm, ⟨1, _⟩ => ⟨S4096, .f32⟩
  | .hbm, ⟨2, _⟩ => ⟨S1x4096, .f32⟩
  | .hbm, ⟨3, _⟩ => ⟨S8192x4096, .f32⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S512x4096, .f32⟩
  | .local _ .vmem, ⟨4, _⟩ => ⟨S512x4096, .f32⟩
  | _, _ => ⟨S8320x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== YPromptRefIdeal.lean ====
abbrev S8320x4096 : Shape := ⟨2, ![8320, 4096]⟩
abbrev S4096 : Shape := ⟨1, ![4096]⟩
abbrev S8192x4096 : Shape := ⟨2, ![8192, 4096]⟩
abbrev S_ : Shape := ⟨0, ![]⟩
abbrev S8192 : Shape := ⟨1, ![8192]⟩
abbrev S8192x1 : Shape := ⟨2, ![8192, 1]⟩
abbrev S1x4096 : Shape := ⟨2, ![1, 4096]⟩

abbrev nBuf : Space → Nat
  | .hbm => 19
  | .vmem => 0
  | .smem => 0
  | _ => 0

abbrev bufTy : (tb : Table) → Fin (tcTables nBuf tb) → BufTy
  | .hbm, ⟨0, _⟩ => ⟨S8320x4096, .f32⟩
  | .hbm, ⟨1, _⟩ => ⟨S4096, .f32⟩
  | .hbm, ⟨2, _⟩ => ⟨S8192x4096, .f32⟩
  | .hbm, ⟨3, _⟩ => ⟨S8192x4096, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x4096, .f32⟩
  | .hbm, ⟨15, _⟩ => ⟨S8192x4096, .f32⟩
  | .hbm, ⟨16, _⟩ => ⟨S1x4096, .f32⟩
  | .hbm, ⟨17, _⟩ => ⟨S8192x4096, .f32⟩
  | .hbm, ⟨18, _⟩ => ⟨S8192x4096, .f32⟩
  | _, _ => ⟨S8320x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== YSample.lean ====
abbrev S8320x4096 : Shape := ⟨2, ![8320, 4096]⟩
abbrev S4096 : Shape := ⟨1, ![4096]⟩
abbrev S1x4096 : Shape := ⟨2, ![1, 4096]⟩
abbrev S128x4096 : Shape := ⟨2, ![128, 4096]⟩
abbrev S128 : Shape := ⟨1, ![128]⟩
abbrev S128x1 : Shape := ⟨2, ![128, 1]⟩

abbrev nBuf : Space → Nat
  | .hbm => 4
  | .vmem => 3
  | .smem => 0
  | _ => 0

abbrev bufTy : (tb : Table) → Fin (tcTables nBuf tb) → BufTy
  | .hbm, ⟨0, _⟩ => ⟨S8320x4096, .f32⟩
  | .hbm, ⟨1, _⟩ => ⟨S4096, .f32⟩
  | .hbm, ⟨2, _⟩ => ⟨S1x4096, .f32⟩
  | .hbm, ⟨3, _⟩ => ⟨S128x4096, .f32⟩
  | .local _ .vmem, ⟨0, _⟩ => ⟨S128x4096, .f32⟩
  | .local _ .vmem, ⟨1, _⟩ => ⟨S1x4096, .f32⟩
  | .local _ .vmem, ⟨2, _⟩ => ⟨S128x4096, .f32⟩
  | _, _ => ⟨S8320x4096, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c64_i32 : BitVec 32 := 64#32
  let v0 : BitVec 32 := Scalar.addi c64_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== YSampleRefIdeal.lean ====
abbrev S8320x4096 : Shape := ⟨2, ![8320, 4096]⟩
abbrev S4096 : Shape := ⟨1, ![4096]⟩
abbrev S128x4096 : Shape := ⟨2, ![128, 4096]⟩
abbrev S_ : Shape := ⟨0, ![]⟩
abbrev S128 : Shape := ⟨1, ![128]⟩
abbrev S128x1 : Shape := ⟨2, ![128, 1]⟩
abbrev S1x4096 : Shape := ⟨2, ![1, 4096]⟩

abbrev nBuf : Space → Nat
  | .hbm => 19
  | .vmem => 0
  | .smem => 0
  | _ => 0

abbrev bufTy : (tb : Table) → Fin (tcTables nBuf tb) → BufTy
  | .hbm, ⟨0, _⟩ => ⟨S8320x4096, .f32⟩
  | .hbm, ⟨1, _⟩ => ⟨S4096, .f32⟩
  | .hbm, ⟨2, _⟩ => ⟨S128x4096, .f32⟩
  | .hbm, ⟨3, _⟩ => ⟨S128x4096, .f32⟩
  | .hbm, ⟨4, _⟩ => ⟨S_, .f32⟩
  | .hbm, ⟨5, _⟩ => ⟨S128, .f32⟩
  | .hbm, ⟨6, _⟩ => ⟨S128x1, .f32⟩
  | .hbm, ⟨7, _⟩ => ⟨S_, .f32⟩
  | .hbm, ⟨8, _⟩ => ⟨S128x1, .f32⟩
  | .hbm, ⟨9, _⟩ => ⟨S128x1, .f32⟩
  | .hbm, ⟨10, _⟩ => ⟨S_, .f32⟩
  | .hbm, ⟨11, _⟩ => ⟨S128x1, .f32⟩
  | .hbm, ⟨12, _⟩ => ⟨S128x1, .f32⟩
  | .hbm, ⟨13, _⟩ => ⟨S128x1, .f32⟩
  | .hbm, ⟨14, _⟩ => ⟨S128x4096, .f32⟩
  | .hbm, ⟨15, _⟩ => ⟨S128x4096, .f32⟩
  | .hbm, ⟨16, _⟩ => ⟨S1x4096, .f32⟩
  | .hbm, ⟨17, _⟩ => ⟨S128x4096, .f32⟩
  | .hbm, ⟨18, _⟩ => ⟨S128x4096, .f32⟩
  | _, _ => ⟨S8320x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Proof.Softmax.lean ====
/- Softmax with a sink on the extended reals: the two ways the programs write it, and what both are.
   A row of scores `s` may hold `⊥` (a masked key) but not `⊤`, and the sink `b` is a real. Then the running maximum is a
   real, every exponential is a real, and the shift by the maximum cancels. `attn s b v` is the common value. -/
module

public import Idealize.ShloMosaic.PureOps.Ideal
public import Mathlib.Analysis.SpecialFunctions.Pow.Real

@[expose] public section

noncomputable section

namespace Cert.Softmax

open Idealize.ShloMosaic

variable {ι κ : Type} [Fintype ι] [Fintype κ]

/-- The unshifted weight of a score: its exponential, zero for a masked score. -/
def weight (y : EReal) : ℝ := (Ideal.exp y).toReal

/-- The probability a key gets: its weight over all the weights together with the sink's. -/
def prob (s : ι → EReal) (b : ℝ) (x : ι) : ℝ := weight (s x) / (∑ y, weight (s y) + Real.exp b)

/-- Attention with a sink: the values summed under the probabilities of their keys. -/
def attn (s : ι → EReal) (b : ℝ) (v : ι → EReal) : EReal := ∑ x, v x * (prob s b x : EReal)

theorem weight_bot : weight ⊥ = 0 := rfl
theorem weight_coe (r : ℝ) : weight r = Real.exp r := rfl

theorem weight_nonneg (y : EReal) : 0 ≤ weight y := by
  induction y using EReal.rec with
  | bot => exact le_rfl
  | coe r => exact (Real.exp_pos r).le
  | top => exact le_rfl

/-- The exponential of a shifted score is its weight times the shift's factor. -/
theorem exp_sub {y : EReal} (hy : y ≠ ⊤) (M : ℝ) : Ideal.exp (y - (M : EReal)) = ((weight y * Real.exp (-M) : ℝ) : EReal) := by
  induction y using EReal.rec with
  | bot => rw [EReal.bot_sub, weight_bot, zero_mul]; rfl
  | coe r => rw [← EReal.coe_sub, weight_coe, ← Real.exp_add, ← sub_eq_add_neg]; rfl
  | top => exact absurd rfl hy

/-- The base the two-to-the-power form scales its scores by. -/
def lg : ℝ := (Real.log 2)⁻¹

theorem lg_pos : 0 < lg := inv_pos.mpr (Real.log_pos one_lt_two)

theorem two_rpow (r : ℝ) : Real.rpow 2 (r * lg) = Real.exp r := by
  show (2 : ℝ) ^ (r * lg) = _
  rw [Real.rpow_def_of_pos two_pos, lg]
  congr 1
  have := (Real.log_pos one_lt_two).ne'
  field_simp

/-- The same in base two, for a score already scaled by `lg`. -/
theorem exp2_sub {y : EReal} (hy : y ≠ ⊤) (M : ℝ) :
    Ideal.exp2 (y * (lg : EReal) - (M : EReal)) = ((weight y * Real.rpow 2 (-M) : ℝ) : EReal) := by
  induction y using EReal.rec with
  | bot => rw [EReal.bot_mul_coe_of_pos lg_pos, EReal.bot_sub, weight_bot, zero_mul]; rfl
  | coe r =>
    rw [← EReal.coe_mul, ← EReal.coe_sub, Ideal.exp2_coe, weight_coe, ← two_rpow r]
    show (((2 : ℝ) ^ (r * lg - M) : ℝ) : EReal) = ((2 ^ (r * lg) * 2 ^ (-M) : ℝ) : EReal)
    rw [← Real.rpow_add two_pos, ← sub_eq_add_neg]
  | top => exact absurd rfl hy

/-- The running maximum with the sink is a real. -/
theorem exists_max (s : ι → EReal) (hs : ∀ x, s x ≠ ⊤) (b : ℝ) :
    ∃ M : ℝ, max (Finset.univ.fold max ⊥ s) (b : EReal) = M := by
  have h1 : max (Finset.univ.fold max ⊥ s) (b : EReal) ≠ ⊤ :=
    (max_lt ((Finset.fold_max_lt _).mpr ⟨bot_lt_top, fun x _ => lt_top_iff_ne_top.mpr (hs x)⟩) (EReal.coe_lt_top b)).ne
  have h2 : max (Finset.univ.fold max ⊥ s) (b : EReal) ≠ ⊥ :=
    ((EReal.bot_lt_coe b).trans_le (le_max_right _ _)).ne'
  exact ⟨_, (EReal.coe_toReal h1 h2).symm⟩

theorem coe_sum (f : ι → ℝ) : ∑ x, (f x : EReal) = ((∑ x, f x : ℝ) : EReal) := by
  classical
  refine Finset.induction_on (Finset.univ : Finset ι) (by simp) fun a t ha ih => ?_
  rw [Finset.sum_insert ha, Finset.sum_insert ha, ih, EReal.coe_add]

/-- A nonnegative real factor goes into a sum of extended reals. -/
theorem sum_mul_coe (f : ι → EReal) {r : ℝ} (hr : 0 ≤ r) : (∑ x, f x) * (r : EReal) = ∑ x, f x * (r : EReal) := by
  classical
  refine Finset.induction_on (Finset.univ : Finset ι) (by simp) fun a t ha ih => ?_
  rw [Finset.sum_insert ha, Finset.sum_insert ha,
    EReal.right_distrib_of_nonneg_of_ne_top (EReal.coe_nonneg.mpr hr) (EReal.coe_ne_top r), ih]

theorem denom (w : ι → ℝ) (wb c : ℝ) :
    ∑ x, ((w x * c : ℝ) : EReal) + ((wb * c : ℝ) : EReal) = (((∑ x, w x + wb) * c : ℝ) : EReal) := by
  rw [coe_sum, ← EReal.coe_add, ← Finset.sum_mul, ← add_mul]

/-- The quotient taken after the sum: the common factor cancels. -/
theorem div_outside (w : ι → ℝ) (hw : ∀ x, 0 ≤ w x) {wb c : ℝ} (hb : 0 < wb) (hc : 0 < c) (v : ι → EReal) :
    Ideal.div (∑ x, v x * ((w x * c : ℝ) : EReal)) (∑ x, ((w x * c : ℝ) : EReal) + ((wb * c : ℝ) : EReal))
      = ∑ x, v x * ((w x / (∑ y, w y + wb) : ℝ) : EReal) := by
  have hD : 0 < ∑ x, w x + wb := add_pos_of_nonneg_of_pos (Finset.sum_nonneg fun x _ => hw x) hb
  have hDc : 0 < (∑ x, w x + wb) * c := mul_pos hD hc
  rw [denom, Ideal.div_coe hDc.ne', one_div, sum_mul_coe _ (inv_nonneg.mpr hDc.le)]
  refine Finset.sum_congr rfl fun x _ => ?_
  rw [mul_assoc, ← EReal.coe_mul]
  congr 2
  field_simp

/-- The quotient taken on each weight before the sum: the same. -/
theorem div_inside (w : ι → ℝ) (hw : ∀ x, 0 ≤ w x) {wb c : ℝ} (hb : 0 < wb) (hc : 0 < c) (v : ι → EReal) :
    ∑ x, v x * Ideal.div ((w x * c : ℝ) : EReal) (∑ y, ((w y * c : ℝ) : EReal) + ((wb * c : ℝ) : EReal))
      = ∑ x, v x * ((w x / (∑ y, w y + wb) : ℝ) : EReal) := by
  have hD : 0 < ∑ x, w x + wb := add_pos_of_nonneg_of_pos (Finset.sum_nonneg fun x _ => hw x) hb
  have hDc : 0 < (∑ x, w x + wb) * c := mul_pos hD hc
  refine Finset.sum_congr rfl fun x _ => ?_
  rw [denom, Ideal.div_coe hDc.ne', one_div, ← EReal.coe_mul]
  congr 2
  field_simp

/-- What the reference writes: each exponential divided, then summed. -/
theorem reference_form (s : ι → EReal) (hs : ∀ x, s x ≠ ⊤) (b : ℝ) (v : ι → EReal) :
    ∑ x, v x * Ideal.div (Ideal.exp (s x - max (Finset.univ.fold max ⊥ s) (b : EReal)))
        (∑ y, Ideal.exp (s y - max (Finset.univ.fold max ⊥ s) (b : EReal))
          + Ideal.exp ((b : EReal) - max (Finset.univ.fold max ⊥ s) (b : EReal)))
      = attn s b v := by
  obtain ⟨M, hM⟩ := exists_max s hs b
  simp only [hM, exp_sub (hs _), exp_sub (EReal.coe_ne_top b)]
  exact div_inside _ (fun x => weight_nonneg _) (Real.exp_pos b) (Real.exp_pos _) v

/-- What a kernel in base e writes: the sum divided at the end. -/
theorem kernel_form (s : ι → EReal) (hs : ∀ x, s x ≠ ⊤) (b : ℝ) (v : ι → EReal) :
    Ideal.div (∑ x, v x * Ideal.exp (s x - max (Finset.univ.fold max ⊥ s) (b : EReal)))
        (∑ y, Ideal.exp (s y - max (Finset.univ.fold max ⊥ s) (b : EReal))
          + Ideal.exp ((b : EReal) - max (Finset.univ.fold max ⊥ s) (b : EReal)))
      = attn s b v := by
  obtain ⟨M, hM⟩ := exists_max s hs b
  simp only [hM, exp_sub (hs _), exp_sub (EReal.coe_ne_top b)]
  exact div_outside _ (fun x => weight_nonneg _) (Real.exp_pos b) (Real.exp_pos _) v

theorem mul_lg_ne_top {y : EReal} (hy : y ≠ ⊤) : y * (lg : EReal) ≠ ⊤ := by
  induction y using EReal.rec with
  | bot => rw [EReal.bot_mul_coe_of_pos lg_pos]; exact bot_ne_top
  | coe r => rw [← EReal.coe_mul]; exact EReal.coe_ne_top _
  | top => exact absurd rfl hy

/-- What a kernel in base two writes, its scores `z` and its sink `a` scaled by `lg`. -/
theorem kernel_form_two (s z : ι → EReal) (hs : ∀ x, s x ≠ ⊤) (hz : ∀ x, z x = s x * (lg : EReal)) (b : ℝ) (a : EReal)
    (ha : a = (b : EReal) * (lg : EReal)) (v : ι → EReal) :
    Ideal.div (∑ x, v x * Ideal.exp2 (z x - max (Finset.univ.fold max ⊥ z) a))
        (∑ y, Ideal.exp2 (z y - max (Finset.univ.fold max ⊥ z) a) + Ideal.exp2 (a - max (Finset.univ.fold max ⊥ z) a))
      = attn s b v := by
  obtain rfl : z = fun x => s x * (lg : EReal) := funext hz
  subst ha
  obtain ⟨M, hM⟩ := exists_max (fun x => s x * (lg : EReal)) (fun x => mul_lg_ne_top (hs x)) (b * lg)
  rw [EReal.coe_mul] at hM
  simp only [hM, exp2_sub (hs _), exp2_sub (EReal.coe_ne_top b)]
  exact div_outside _ (fun x => weight_nonneg _) (Real.exp_pos b) (Real.rpow_pos_of_pos two_pos _) v

/-- Keys that carry no weight may be left out: `e` places the keys of one row among those of another, where every key it
    misses is masked, and the values agree wherever the key is not masked. -/
theorem attn_transfer (e : κ → ι) (he : Function.Injective e) (s : ι → EReal) (s' : κ → EReal) (b : ℝ) (v : ι → EReal)
    (v' : κ → EReal) (hs : ∀ k, s' k = s (e k)) (ho : ∀ x, x ∉ Set.range e → s x = ⊥) (hv : ∀ k, s' k ≠ ⊥ → v' k = v (e k)) :
    attn s' b v' = attn s b v := by
  have hsum : ∑ k, weight (s' k) = ∑ x, weight (s x) :=
    Fintype.sum_of_injective e he _ _ (fun x hx => by rw [ho x hx, weight_bot]) fun k => by rw [hs]
  refine Fintype.sum_of_injective e he _ _ (fun x hx => ?_) fun k => ?_
  · rw [prob, ho x hx, weight_bot, zero_div, EReal.coe_zero, mul_zero]
  · rw [prob, prob, hsum, ← hs]
    by_cases h : s' k = ⊥
    · rw [h, weight_bot, zero_div, EReal.coe_zero, mul_zero, mul_zero]
    · rw [hv k h]

end Cert.Softmax

end
-- ==== Proof.Consts.lean ====
/- The constants the programs write, at the ideal values: each is a bit pattern's value. -/
module

public import Idealize.ShloMosaic.PureOps.Ideal
public import Mathlib.Tactic.NormNum

@[expose] public section

namespace Cert.Consts

open Idealize.ShloMosaic

/-- The masked score: minus infinity. -/
theorem minus_inf : Ideal.ofBits .f32 0xFF800000#32 = ⊥ := by
  simp [Ideal.ofBits, Ideal.ieee]

/-- The bound a finite number is under: plus infinity. -/
theorem plus_inf : Ideal.ofBits .f32 0x7F800000#32 = ⊤ := by
  simp [Ideal.ofBits, Ideal.ieee]

/-- The scale of the scores, the f32 number nearest to `1 / √128`. -/
theorem scale : Ideal.ofBits .f32 0x3DB504F3#32 = ((11863283 / 134217728 : ℝ) : EReal) := by
  simp [Ideal.ofBits, Ideal.ieee, -EReal.coe_mul]; norm_num

end Cert.Consts

end
-- ==== Proof.Words.lean ====
/- Index words read as integers: a one-bit word that says a proposition, and signed comparisons of words whose integer
   values are known. -/
module

public import Idealize.ShloMosaic.Lib.Pipeline.ValueKit
public import Idealize.ShloMosaic.Lib.Affine

@[expose] public section

namespace Cert.Words

open Idealize.ShloMosaic

/-- A bit is the decision of the proposition it says. -/
theorem bit_eq_ite {c : BitVec 1} {P : Prop} [Decidable P] (h : c = 1#1 ↔ P) : c = if P then 1#1 else 0#1 := by
  split
  · next p => exact h.2 p
  · next p => exact (BitVec.eq_zero_or_eq_one c).resolve_right fun e => p (h.1 e)

/-- A small number as a word. -/
theorem toInt_ofNat {n : ℕ} (h : n < 2 ^ 31) : (BitVec.ofNat 32 n).toInt = n := by
  rw [BitVec.toInt_eq_toNat_of_lt (by rw [BitVec.toNat_ofNat]; omega), BitVec.toNat_ofNat]; omega

/-- A sum of words without overflow. -/
theorem toInt_addi {x y : BitVec 32} {a b : ℤ} (ha : x.toInt = a) (hb : y.toInt = b) (h : -2 ^ 31 ≤ a + b ∧ a + b < 2 ^ 31) :
    (IntOp.addi x y).toInt = a + b := by
  show (x + y).toInt = _
  rw [BitVec.toInt_add, ha, hb]
  exact Int.bmod_eq_of_le (by norm_num; omega) (by norm_num; omega)

/-- A difference of words without overflow. -/
theorem toInt_subi {x y : BitVec 32} {a b : ℤ} (ha : x.toInt = a) (hb : y.toInt = b) (h : -2 ^ 31 ≤ a - b ∧ a - b < 2 ^ 31) :
    (IntOp.subi x y).toInt = a - b := by
  show (x - y).toInt = _
  rw [BitVec.toInt_sub, ha, hb]
  exact Int.bmod_eq_of_le (by norm_num; omega) (by norm_num; omega)

/-- A product of words without overflow. -/
theorem toInt_muli {x y : BitVec 32} {a b : ℤ} (ha : x.toInt = a) (hb : y.toInt = b) (h : -2 ^ 31 ≤ a * b ∧ a * b < 2 ^ 31) :
    (IntOp.muli x y).toInt = a * b := by
  show (x * y).toInt = _
  rw [BitVec.toInt_mul, ha, hb]
  exact Int.bmod_eq_of_le (by norm_num; omega) (by norm_num; omega)

end Cert.Words

end
-- ==== Proof.PromptHead.lean ====
/- One head of the prompt kernel's body, at one tile: its payloads read at an index, and the column of a query as the
   weighted sum of `Softmax.attn`. The eight heads of the body compute this with their own loads. -/
module

public import proofs.«01_k».proof.Proof.Gen.SwaPromptIdeal.Value
public import proofs.«01_k».proof.Proof.Softmax
public import proofs.«01_k».proof.Proof.Consts
public import proofs.«01_k».proof.Proof.Words
public import Idealize.ShloMosaic.Lib.Pipeline.ValueKit
public import Idealize.ShloMosaic.Lib.Pointwise

@[expose] public section

set_option maxRecDepth 16384

noncomputable section

namespace Cert.SwaPromptIdeal.Value

open Cert.SwaPromptIdeal Cert.SwaPromptIdeal.Gen Idealize.ShloMosaic Idealize.ShloMosaic.TcCoe Idealize.SL.Sem

/-- The named scale of the scores, in base two. -/
theorem scale_named : Named.named (F := Ideal) (φ := .f32) κ "scale_log2e" 0x3E0293EE#32 = (((11863283 / 134217728) * (Real.log 2)⁻¹ : ℝ) : EReal) :=
  IdealRules.named_const.ideal_named_scalar _ _ _ _ rfl

/-- The named factor of the sinks, in base two. -/
theorem sink_named : Named.named (F := Ideal) (φ := .f32) κ "log2e" 0x3FB8AA3B#32 = (((Real.log 2)⁻¹ : ℝ) : EReal) :=
  IdealRules.named_const.ideal_named_scalar _ _ _ _ rfl

/-- The quotient of a column: weighted values over the weights' sum. -/
theorem quotient_apply (V : FVec Ideal S384x128 .bf16) (s : FVec Ideal S384x1024 .f32) (sk : FVec Ideal S1x1024 .f32) (d : Fin 128) (c : Fin 1024) :
    k0_pay89 V s sk (ix2 d c)
      = Ideal.div (∑ x, V (ix2 x d) * Ideal.exp2 (s (ix2 x c) - max (Finset.univ.fold max ⊥ fun x => s (ix2 x c)) (sk (ix2 0 c))))
          (∑ x, Ideal.exp2 (s (ix2 x c) - max (Finset.univ.fold max ⊥ fun x => s (ix2 x c)) (sk (ix2 0 c)))
            + Ideal.exp2 (sk (ix2 0 c) - max (Finset.univ.fold max ⊥ fun x => s (ix2 x c)) (sk (ix2 0 c)))) := by
  unfold k0_pay89
  pointwise
  rw [Consts.minus_inf]
  rfl

/-- A score of the body: the masked product of a key row and a scaled query row. -/
theorem score_apply (mk : IVec S384x1024 1) (q0 q1 q2 q3 : Vec Ideal S256x128 .f32) (kp : Vec Ideal S128x128 .f32) (kc : Vec Ideal S256x128 .f32)
    (k : Fin 384) (j : Fin 4) (r : Fin 256) :
    k0_pay85 mk q0 q1 q2 q3 kp kc (ix2 k ⟨256 * j.val + r.val, by omega⟩)
      = if mk (ix2 k ⟨256 * j.val + r.val, by omega⟩) = 1#1 then
          ∑ x, (if h : k.val < 128 then kp (ix2 ⟨k.val, h⟩ x) else kc (ix2 ⟨k.val - 128, by omega⟩ x))
            * ((![q0, q1, q2, q3] j) (ix2 r x) * (((11863283 / 134217728) * (Real.log 2)⁻¹ : ℝ) : EReal))
        else ⊥ := by
  unfold k0_pay85
  pointwise
  rw [Consts.minus_inf, scale_named, Scalar.select]
  have hr := r.isLt
  have e : ∀ x, (if h : 256 * j.val + r.val < 256 then q0 (ix2 ⟨256 * j.val + r.val, h⟩ x)
      else if h : 256 * j.val + r.val - 256 < 256 then q1 (ix2 ⟨256 * j.val + r.val - 256, h⟩ x)
      else if h : 256 * j.val + r.val - 256 - 256 < 256 then q2 (ix2 ⟨256 * j.val + r.val - 256 - 256, h⟩ x)
      else q3 (ix2 ⟨256 * j.val + r.val - 256 - 256 - 256, by omega⟩ x)) = (![q0, q1, q2, q3] j) (ix2 r x) := fun x => by
    match j with
    | 0 => rw [dif_pos (by simpa using hr)]; exact congrArg q0 (congrArg₂ ix2 (Fin.ext (by simp)) rfl)
    | 1 => rw [dif_neg (by simp), dif_pos (by simp)]; exact congrArg q1 (congrArg₂ ix2 (Fin.ext (by simp)) rfl)
    | 2 => rw [dif_neg (by simp; omega), dif_neg (by simp; omega), dif_pos (by simp; omega)]; exact congrArg q2 (congrArg₂ ix2 (Fin.ext (by simp; omega)) rfl)
    | 3 => rw [dif_neg (by simp; omega), dif_neg (by simp; omega), dif_neg (by simp; omega)]; exact congrArg q3 (congrArg₂ ix2 (Fin.ext (by simp; omega)) rfl)
  simp only [e]
  rfl

/-- The stacked values. -/
theorem stack_apply (vp : Vec Ideal S128x128 .f32) (vc : Vec Ideal S256x128 .f32) (k : Fin 384) (d : Fin 128) :
    k0_pay84 vp vc (ix2 k d) = if h : k.val < 128 then vp (ix2 ⟨k.val, h⟩ d) else vc (ix2 ⟨k.val - 128, by omega⟩ d) := by
  unfold k0_pay84
  pointwise

/-- The group of a column: which of the four queries of a head it belongs to. -/
def group : IVec S1x1024 32 := k0_pay5 (iota .tc S1x1024 32 [1] iota_S1x1024_d1_w32) 256#32 k0_pay3 k0_pay4 1#32 0#32

/-- The group of a column, read. -/
theorem group_apply (j : Fin 4) (r : Fin 256) : group (ix2 0 ⟨256 * j.val + r.val, by omega⟩) = BitVec.ofNat 32 j.val := by
  unfold group k0_pay5 k0_pay3 k0_pay4
  pointwise
  revert j r
  decide +kernel

/-- The sink of a column. -/
theorem sink_apply (s0 s1 s2 s3 : Elt Ideal .f32) (j : Fin 4) (r : Fin 256) :
    k0_pay88 group k0_pay86 (k0_pay87 group) s0 s1 s2 s3 (ix2 0 ⟨256 * j.val + r.val, by omega⟩)
      = (![s0, s1, s2, s3] j : EReal) * (((Real.log 2)⁻¹ : ℝ) : EReal) := by
  unfold k0_pay88 k0_pay86 k0_pay87
  pointwise
  rw [group_apply, sink_named]
  match j with
  | 0 => rfl
  | 1 => rfl
  | 2 => rfl
  | 3 => rfl

/-- The query position within a tile: a column's residue by 256, as the body computes it. -/
theorem residue : ∀ (j : Fin 4) (r : Fin 256),
    Scalar.select
      (IntOp.andi
        (IntOp.xori
          (IntOp.cmpi .slt (IntOp.remsi .vector (BitVec.ofNat 32 (256 * j.val + r.val)) (Scalar.select (Scalar.cmpi .eq 256#32 0#32) 1#32 256#32)) 0#32)
          (Scalar.cmpi .slt (Scalar.select (Scalar.cmpi .eq 256#32 0#32) 1#32 256#32) 0#32))
        (IntOp.cmpi .ne (IntOp.remsi .vector (BitVec.ofNat 32 (256 * j.val + r.val)) (Scalar.select (Scalar.cmpi .eq 256#32 0#32) 1#32 256#32)) 0#32))
      (IntOp.addi (IntOp.remsi .vector (BitVec.ofNat 32 (256 * j.val + r.val)) (Scalar.select (Scalar.cmpi .eq 256#32 0#32) 1#32 256#32))
        (Scalar.select (Scalar.cmpi .eq 256#32 0#32) 1#32 256#32))
      (IntOp.remsi .vector (BitVec.ofNat 32 (256 * j.val + r.val)) (Scalar.select (Scalar.cmpi .eq 256#32 0#32) 1#32 256#32))
      = BitVec.ofNat 32 r.val := by
  decide +kernel

/-- The mask of a tile read at an index. -/
theorem mask_apply (i : grid0.Coords) (k : Fin 384) (j : Fin 4) (r : Fin 256) :
    k0_pay2 i (ix2 k ⟨256 * j.val + r.val, by omega⟩)
      = if r.val < k.val ∧ k.val ≤ r.val + 128 ∧ (128 ≤ k.val ∨ 0 < (i 2).val) then 1#1 else 0#1 := by
  unfold k0_pay2
  pointwise
  rw [residue]
  have hk := k.isLt
  have hr := r.isLt
  have hi : (i 2).val < 2 ^ 31 := lt_of_lt_of_le (i 2).isLt (by decide)
  have h128 := Words.toInt_ofNat (n := 128) (by omega)
  refine Words.bit_eq_ite ?_
  rw [IntOp.andi_eq_one, IntOp.andi_eq_one, IntOp.ori_eq_one, Scalar.cmpi, IntOp.cmpi_sle, IntOp.cmpi_sgt, IntOp.cmpi_sge, IntOp.cmpi_sgt,
    Words.toInt_ofNat (by omega : k.val < 2 ^ 31), Words.toInt_ofNat (by omega : r.val < 2 ^ 31), Words.toInt_ofNat hi,
    Words.toInt_addi (Words.toInt_ofNat (by omega : r.val < 2 ^ 31)) h128 (by omega)]
  rw [h128, show (0#32 : BitVec 32).toInt = 0 from rfl]
  omega

/-- One head of a tile: a column of values for each query of the head's four groups. -/
def head (i : grid0.Coords) (q : Fin 4 → Vec Ideal S256x128 .f32) (kp : Vec Ideal S128x128 .f32) (kc : Vec Ideal S256x128 .f32)
    (vp : Vec Ideal S128x128 .f32) (vc : Vec Ideal S256x128 .f32) (s : Fin 4 → Elt Ideal .f32) : FVec Ideal S128x1024 .f32 :=
  k0_pay89 (k0_pay84 vp vc) (k0_pay85 (k0_pay2 i) (q 0) (q 1) (q 2) (q 3) kp kc)
    (k0_pay88 group k0_pay86 (k0_pay87 group) (s 0) (s 1) (s 2) (s 3))

/-- A head at a query of group `j`, from real queries, keys and sinks. -/
theorem head_apply (i : grid0.Coords) (q : Fin 4 → Vec Ideal S256x128 .f32) (kp : Vec Ideal S128x128 .f32) (kc : Vec Ideal S256x128 .f32)
    (vp : Vec Ideal S128x128 .f32) (vc : Vec Ideal S256x128 .f32) (s : Fin 4 → Elt Ideal .f32) (j : Fin 4) (r : Fin 256) (d : Fin 128)
    (qr : Fin 128 → ℝ) (kr : Fin 384 → Fin 128 → ℝ) (b : ℝ) (hq : ∀ x, q j (ix2 r x) = (qr x : EReal))
    (hk : ∀ (k : Fin 384) x, (if h : k.val < 128 then kp (ix2 ⟨k.val, h⟩ x) else kc (ix2 ⟨k.val - 128, by omega⟩ x)) = (kr k x : EReal))
    (hs : s j = (b : EReal)) :
    head i q kp kc vp vc s (ix2 d ⟨256 * j.val + r.val, by omega⟩)
      = Softmax.attn
          (fun k : Fin 384 => if r.val < k.val ∧ k.val ≤ r.val + 128 ∧ (128 ≤ k.val ∨ 0 < (i 2).val) then
            (((∑ x, kr k x * qr x) * (11863283 / 134217728) : ℝ) : EReal) else ⊥) b
          (fun k => if h : k.val < 128 then vp (ix2 ⟨k.val, h⟩ d) else vc (ix2 ⟨k.val - 128, by omega⟩ d)) := by
  have eq4 : ![q 0, q 1, q 2, q 3] = q := by funext a; fin_cases a <;> rfl
  have es4 : ![s 0, s 1, s 2, s 3] = s := by funext a; fin_cases a <;> rfl
  unfold head
  rw [quotient_apply, sink_apply, es4, hs]
  simp only [score_apply, eq4, stack_apply, hk, hq, mask_apply]
  refine Softmax.kernel_form_two _ _ (fun k => ?_) (fun k => ?_) _ _ rfl _
  · split
    · exact EReal.coe_ne_top _
    · exact bot_ne_top
  · by_cases h : r.val < k.val ∧ k.val ≤ r.val + 128 ∧ (128 ≤ k.val ∨ 0 < (i 2).val)
    · rw [if_pos h, if_pos rfl, if_pos h]
      simp only [← EReal.coe_mul, Softmax.coe_sum]
      congr 1
      unfold Softmax.lg
      simp only [Finset.sum_mul]
      refine Finset.sum_congr rfl fun x _ => ?_
      ring
    · rw [if_neg h, if_neg (by decide), if_neg h, EReal.bot_mul_of_pos]
      exact EReal.coe_pos.2 Softmax.lg_pos

/-- The stored part of a head: the columns of group `j`, one row a query. -/
def part (j : Fin 4) (h : S128x1024.Slices ![0, 256 * j.val] S128x256) (x : FVec Ideal S128x1024 .f32) : FVec Ideal S256x128 .bf16 :=
  truncf .bf16 (transpose S256x128 [1, 0] (extractStridedSlice S128x256 ![0, 256 * j.val] x h) transposes_S128x256_p1_0_S256x128) bitsLt_bf16_f32

/-- The stored part read at an index. -/
theorem part_apply (j : Fin 4) (h : S128x1024.Slices ![0, 256 * j.val] S128x256) (x : FVec Ideal S128x1024 .f32) (r : Fin 256) (d : Fin 128) :
    part j h x (ix2 r d) = x (ix2 d ⟨256 * j.val + r.val, by omega⟩) := by
  unfold part
  pointwise

end Cert.SwaPromptIdeal.Value

end
-- ==== Proof.PromptRef.lean ====
/- What `swa_prompt_reference` computes, element by element: its composed term cut into named stages, each read at an
   index. The last theorem reads the whole result as a row of `Softmax.attn`. -/
module

public import proofs.«01_k».proof.Proof.Gen.SwaPromptRefIdeal.Run
public import proofs.«01_k».proof.Proof.Softmax
public import proofs.«01_k».proof.Proof.Consts
public import proofs.«01_k».proof.Proof.Words
public import Idealize.ShloMosaic.Lib.Pipeline.ValueKit
public import Idealize.ShloMosaic.Lib.Pointwise

@[expose] public section

set_option maxRecDepth 16384

noncomputable section

namespace Cert.SwaPromptRefIdeal.Value

open Cert.SwaPromptRefIdeal Cert.SwaPromptRefIdeal.Gen Idealize.ShloMosaic Idealize.ShloMosaic.TcCoe Idealize.SL.Sem Idealize.ShloMosaic.StableHlo

variable (sinks : FVec Ideal S32 .f32) (x : FVec Ideal S8320x6144 .f32)

/-- The rows of the four sequences. -/
def rows : FVec Ideal S4x2048x6144 .f32 := (shapeCast _ (extractStridedSlice S8192x6144 ![0, 0] x slices_S8320x6144_S8192x6144_0_0) shapeCasts_S8192x6144_S4x2048x6144)
/-- A head's queries by 128-row block. -/
def queries (y : FVec Ideal S4x2048x6144 .f32) : FVec Ideal S4x16x128x8x4x128 .f32 :=
  (shapeCast _ (shapeCast _ (extractStridedSlice S4x2048x4096 ![0, 0, 0] y slices_S4x2048x6144_S4x2048x4096_0_0_0) shapeCasts_S4x2048x4096_S4x2048x8x4x128) shapeCasts_S4x2048x8x4x128_S4x16x128x8x4x128)
/-- The previous and the own block of the array `z`, the first block after zeros. -/
def band (z : FVec Ideal S4x2048x1024 .f32) : FVec Ideal S4x16x256x8x128 .f32 :=
  (concatenate S4x16x256x8x128 2 [⟨S4x16x128x8x128, (extractStridedSlice S4x16x128x8x128 ![0, 0, 0, 0, 0] (shapeCast _ (pad S4x2176x8x128 ![0, 128, 0, 0] ![0, 0, 0, 0] ![0, 0, 0, 0] (shapeCast _ z shapeCasts_S4x2048x1024_S4x2048x8x128) (sitofp .f32 (constantI S_ 32 0#32)) pads_S4x2048x8x128_S4x2176x8x128_000_12800_000_000 h_S_) shapeCasts_S4x2176x8x128_S4x17x128x8x128) slices_S4x17x128x8x128_S4x16x128x8x128_0_0_0_0_0)⟩, ⟨S4x16x128x8x128, (extractStridedSlice S4x16x128x8x128 ![0, 1, 0, 0, 0] (shapeCast _ (pad S4x2176x8x128 ![0, 128, 0, 0] ![0, 0, 0, 0] ![0, 0, 0, 0] (shapeCast _ z shapeCasts_S4x2048x1024_S4x2048x8x128) (sitofp .f32 (constantI S_ 32 0#32)) pads_S4x2048x8x128_S4x2176x8x128_000_12800_000_000 h_S_) shapeCasts_S4x2176x8x128_S4x17x128x8x128) slices_S4x17x128x8x128_S4x16x128x8x128_0_1_0_0_0)⟩] concatenates_S4x16x128x8x128_S4x16x128x8x128_S4x16x256x8x128_d2)
/-- A query's position in its sequence. -/
def queryPos : IVec S16x128x1 32 :=
  (broadcastInDim S16x128x1 ![0, 1] bcast_S16x128_S16x128x1_0_1 (addi (broadcastInDim S16x128 ![0, 1] bcast_S16x1_S16x128_0_1 (muli (broadcastInDim S16x1 ![0] bcast_S16_S16x1_0 (iotaInDim S16 32 0)) (broadcastInDim S16x1 ![] bcast_S_S16x1 (constantI S_ 32 128#32)))) (broadcastInDim S16x128 ![0, 1] bcast_S1x128_S16x128_0_1 (broadcastInDim S1x128 ![1] bcast_S128_S1x128_1 (iotaInDim S128 32 0)))))
/-- A key's position, negative before the sequence. -/
def keyPos : IVec S16x1x256 32 :=
  (broadcastInDim S16x1x256 ![0, 2] bcast_S16x256_S16x1x256_0_2 (addi (broadcastInDim S16x256 ![0, 1] bcast_S16x1_S16x256_0_1 (muli (subi (broadcastInDim S16x1 ![0] bcast_S16_S16x1_0 (iotaInDim S16 32 0)) (broadcastInDim S16x1 ![] bcast_S_S16x1 (constantI S_ 32 1#32))) (broadcastInDim S16x1 ![] bcast_S_S16x1 (constantI S_ 32 128#32)))) (broadcastInDim S16x256 ![0, 1] bcast_S1x256_S16x256_0_1 (broadcastInDim S1x256 ![1] bcast_S256_S1x256_1 (iotaInDim S256 32 0)))))
/-- Which keys a query sees. -/
def mask : IVec S16x1x1x128x256 1 :=
  (broadcastInDim S16x1x1x128x256 ![0, 3, 4] bcast_S16x128x256_S16x1x1x128x256_0_3_4 (andi (andi (cmpi .sle (broadcastInDim S16x128x256 ![0, 1, 2] bcast_S16x1x256_S16x128x256_0_1_2 keyPos) (broadcastInDim S16x128x256 ![0, 1, 2] bcast_S16x128x1_S16x128x256_0_1_2 queryPos)) (cmpi .sgt (broadcastInDim S16x128x256 ![0, 1, 2] bcast_S16x1x256_S16x128x256_0_1_2 keyPos) (broadcastInDim S16x128x256 ![0, 1, 2] bcast_S16x128x1_S16x128x256_0_1_2 (subi queryPos (broadcastInDim S16x128x1 ![] bcast_S_S16x128x1 (constantI S_ 32 128#32)))))) (broadcastInDim S16x128x256 ![0, 1, 2] bcast_S16x1x256_S16x128x256_0_1_2 (cmpi .sge keyPos (broadcastInDim S16x1x256 ![] bcast_S_S16x1x256 (constantI S_ 32 0#32))))))
/-- The masked scores. -/
def scores (key : FVec Ideal S4x16x256x8x128 .f32) (qry : FVec Ideal S4x16x128x8x4x128 .f32) (mk : IVec S16x1x1x128x256 1) :
    FVec Ideal S4x16x8x4x128x256 .f32 :=
  (select (broadcastInDim S4x16x8x4x128x256 ![1, 2, 3, 4, 5] bcast_S16x1x1x128x256_S4x16x8x4x128x256_1_2_3_4_5 mk) (mulf (transpose S4x16x8x4x128x256 [0, 1, 2, 5, 4, 3] (Host.dotGeneral dot_S4x16x256x8x128_S4x16x128x8x4x128_S4x16x8x256x128x4_4_5_2_24_013_013 none key qry) transposes_S4x16x8x256x128x4_S4x16x8x4x128x256_0_1_2_5_4_3) (broadcastInDim S4x16x8x4x128x256 ![] bcast_S_S4x16x8x4x128x256 (constant S_ .f32 0x3DB504F3#32))) (broadcastInDim S4x16x8x4x128x256 ![] bcast_S_S4x16x8x4x128x256 (id (constant S_ .f32 0xFF800000#32))))
/-- The sink of every row. -/
def sinkRows : FVec Ideal S4x16x8x4x128x1 .f32 := (broadcastInDim S4x16x8x4x128x1 ![0, 1, 2, 3, 4, 5] bcast_S1x1x8x4x1x1_S4x16x8x4x128x1_0_1_2_3_4_5 (broadcastInDim S1x1x8x4x1x1 ![2, 3, 4, 5] bcast_S8x4x1x1_S1x1x8x4x1x1_2_3_4_5 (shapeCast _ sinks shapeCasts_S32_S8x4x1x1)))
/-- The maximum of a row and its sink. -/
def rowMax (s : FVec Ideal S4x16x8x4x128x256 .f32) (sk : FVec Ideal S4x16x8x4x128x1 .f32) : FVec Ideal S4x16x8x4x128x1 .f32 := (maximumf (broadcastInDim S4x16x8x4x128x1 ![0, 1, 2, 3, 4] bcast_S4x16x8x4x128_S4x16x8x4x128x1_0_1_2_3_4 (Host.reduce FloatOps.maximumf s (constant S_ .f32 0xFF800000#32) reducesTo_S4x16x8x4x128x256_S4x16x8x4x128_d5 h_S_)) sk)
/-- The shifted exponentials. -/
def expo (s : FVec Ideal S4x16x8x4x128x256 .f32) (mx : FVec Ideal S4x16x8x4x128x1 .f32) : FVec Ideal S4x16x8x4x128x256 .f32 :=
  (Host.exp (subf s (broadcastInDim S4x16x8x4x128x256 ![0, 1, 2, 3, 4, 5] bcast_S4x16x8x4x128x1_S4x16x8x4x128x256_0_1_2_3_4_5 mx)))
/-- The result from the exponentials. -/
def finish (num : FVec Ideal S4x16x8x4x128x256 .f32) (mx sk : FVec Ideal S4x16x8x4x128x1 .f32) (val : FVec Ideal S4x16x256x8x128 .f32) :
    FVec Ideal S8192x4096 .bf16 :=
  truncf .bf16 (shapeCast _ (transpose S4x16x128x8x4x128 [0, 1, 5, 2, 4, 3] (Host.dotGeneral dot_S4x16x256x8x128_S4x16x8x4x128x256_S4x16x8x128x4x128_2_5_4_34_013_012 none val (Host.divf num (broadcastInDim S4x16x8x4x128x256 ![0, 1, 2, 3, 4, 5] bcast_S4x16x8x4x128x1_S4x16x8x4x128x256_0_1_2_3_4_5 (addf (broadcastInDim S4x16x8x4x128x1 ![0, 1, 2, 3, 4] bcast_S4x16x8x4x128_S4x16x8x4x128x1_0_1_2_3_4 (Host.reduceAdd num (constant S_ .f32 0x00000000#32) reducesTo_S4x16x8x4x128x256_S4x16x8x4x128_d5 h_S_)) (Host.exp (subf sk mx)))))) transposes_S4x16x8x128x4x128_S4x16x128x8x4x128_0_1_5_2_4_3) shapeCasts_S4x16x128x8x4x128_S8192x4096) bitsLt_bf16_f32

/-- The result, by its stages. -/
def result : FVec Ideal S8192x4096 .bf16 :=
  let y := rows x
  let s := scores (band (extractStridedSlice S4x2048x1024 ![0, 0, 4096] y slices_S4x2048x6144_S4x2048x1024_0_0_4096)) (queries y) mask
  let sk := sinkRows sinks
  let mx := rowMax s sk
  finish (expo s mx) mx sk (band (extractStridedSlice S4x2048x1024 ![0, 0, 5120] y slices_S4x2048x6144_S4x2048x1024_0_0_5120))

/-- The reference's composed term is the stages' result. -/
theorem res_eq (m : (ℓ : Loc nD τ sig) → Buf (Elt Ideal) ℓ) (c : Dev nD) :
    res_main_v79 m c = result (m ((c.tc : Thread nD τ).loc main_arg0)) (m ((c.tc : Thread nD τ).loc main_arg1)) := rfl

/-- The queries read at an index. -/
theorem queries_apply (b : Fin 4) (n : Fin 16) (i : Fin 128) (h : Fin 8) (j : Fin 4) (d : Fin 128) :
    queries (rows x) (ix6 b n i h j d)
      = x (ix2 ⟨b.val * 2048 + (n.val * 128 + i.val), by omega⟩ ⟨h.val * 512 + j.val * 128 + d.val, by omega⟩) := by
  unfold queries rows
  pointwise

/-- The band read at a key inside the sequence. -/
theorem band_apply (z : FVec Ideal S4x2048x1024 .f32) (b : Fin 4) (n : Fin 16) (k : Fin 256) (h : Fin 8) (d : Fin 128)
    (hk : 128 ≤ n.val * 128 + k.val) :
    band z (ix5 b n k h d) = z (ix3 b ⟨n.val * 128 + k.val - 128, by omega⟩ ⟨h.val * 128 + d.val, by omega⟩) := by
  unfold band
  pointwise
  split
  · rw [dif_pos ⟨hk, by omega⟩]
  · rw [dif_pos ⟨by omega, by omega⟩]
    congr 2
    exact Fin.ext (by simp only; omega)

/-- The mask read at an index. -/
theorem mask_apply (n : Fin 16) (i : Fin 128) (k : Fin 256) :
    mask (ix5 n 0 0 i k) = if i.val < k.val ∧ k.val ≤ i.val + 128 ∧ 128 ≤ n.val * 128 + k.val then 1#1 else 0#1 := by
  unfold mask keyPos queryPos
  pointwise
  have hn := n.isLt
  have hi := i.isLt
  have hk := k.isLt
  generalize n.val = a at *
  generalize i.val = b at *
  generalize k.val = c at *
  have hq : (IntOp.addi (IntOp.muli (BitVec.ofNat 32 a) 128#32) (BitVec.ofNat 32 b)).toInt = (a : ℤ) * 128 + b :=
    Words.toInt_addi (Words.toInt_muli (Words.toInt_ofNat (by omega)) (Words.toInt_ofNat (n := 128) (by omega)) (by omega))
      (Words.toInt_ofNat (by omega)) (by omega)
  have hp : (IntOp.addi (IntOp.muli (IntOp.subi (BitVec.ofNat 32 a) 1#32) 128#32) (BitVec.ofNat 32 c)).toInt = ((a : ℤ) - 1) * 128 + c :=
    Words.toInt_addi (Words.toInt_muli (Words.toInt_subi (Words.toInt_ofNat (by omega)) (Words.toInt_ofNat (n := 1) (by omega)) (by omega))
      (Words.toInt_ofNat (n := 128) (by omega)) (by omega)) (Words.toInt_ofNat (by omega)) (by omega)
  have hs := Words.toInt_subi hq (Words.toInt_ofNat (n := 128) (by omega)) (by omega)
  refine Words.bit_eq_ite ?_
  rw [IntOp.andi_eq_one, IntOp.andi_eq_one, IntOp.cmpi_sle, IntOp.cmpi_sgt, IntOp.cmpi_sge]
  rw [hq, hp, hs]
  rw [show (0#32 : BitVec 32).toInt = 0 from rfl]
  omega

/-- The scores read at an index. -/
theorem scores_apply (key : FVec Ideal S4x16x256x8x128 .f32) (qry : FVec Ideal S4x16x128x8x4x128 .f32) (mk : IVec S16x1x1x128x256 1)
    (b : Fin 4) (n : Fin 16) (h : Fin 8) (j : Fin 4) (i : Fin 128) (k : Fin 256) :
    scores key qry mk (ix6 b n h j i k)
      = if mk (ix5 n 0 0 i k) = 1#1 then (∑ d, key (ix5 b n k h d) * qry (ix6 b n i h j d)) * Ideal.ofBits .f32 0x3DB504F3#32 else ⊥ := by
  unfold scores id
  pointwise
  rw [Consts.minus_inf]
  rfl

/-- The sinks read at an index. -/
theorem sinkRows_apply (b : Fin 4) (n : Fin 16) (h : Fin 8) (j : Fin 4) (i : Fin 128) :
    sinkRows sinks (ix6 b n h j i 0) = sinks (ix1 ⟨h.val * 4 + j.val, by omega⟩) := by
  unfold sinkRows
  pointwise

/-- The source index of a reduction over the keys. -/
theorem lift_last (h' : S4x16x8x4x128x256.Reduces [5] S4x16x8x4x128) (b : Fin 4) (n : Fin 16) (h : Fin 8) (j : Fin 4) (i : Fin 128) (k : Fin 256) :
    h'.lift (ix5 b n h j i) k = ix6 b n h j i k := by
  funext a
  fin_cases a <;> rfl

/-- The row maxima read at an index. -/
theorem rowMax_apply (s : FVec Ideal S4x16x8x4x128x256 .f32) (sk : FVec Ideal S4x16x8x4x128x1 .f32) (b : Fin 4) (n : Fin 16) (h : Fin 8) (j : Fin 4) (i : Fin 128) :
    rowMax s sk (ix6 b n h j i 0) = max (Finset.univ.fold max ⊥ fun k : Fin 256 => s (ix6 b n h j i k)) (sk (ix6 b n h j i 0)) := by
  unfold rowMax
  have e : ∀ z : FVec Ideal S4x16x8x4x128 .f32, maximumf (broadcastInDim S4x16x8x4x128x1 ![0, 1, 2, 3, 4] bcast_S4x16x8x4x128_S4x16x8x4x128x1_0_1_2_3_4 z) sk (ix6 b n h j i 0)
      = max (z (ix5 b n h j i)) (sk (ix6 b n h j i 0)) := fun z => by pointwise
  rw [e, Host.reduce_eq_fold_single (s := S4x16x8x4x128x256) (a := 5) (t := S4x16x8x4x128) _ s _ _ (by decide) h_S_]
  congr 1
  have e0 : constant (F := Ideal) S_ .f32 0xFF800000#32 (Shape.Idx.first h_S_) = ⊥ := Consts.minus_inf
  rw [e0]
  refine Finset.fold_congr fun k _ => ?_
  exact congrArg s (lift_last _ b n h j i k)

/-- The exponentials read at an index. -/
theorem expo_apply (s : FVec Ideal S4x16x8x4x128x256 .f32) (mx : FVec Ideal S4x16x8x4x128x1 .f32) (b : Fin 4) (n : Fin 16) (h : Fin 8) (j : Fin 4) (i : Fin 128) (k : Fin 256) :
    expo s mx (ix6 b n h j i k) = Ideal.exp (s (ix6 b n h j i k) - mx (ix6 b n h j i 0)) := by
  unfold expo
  pointwise

/-- The result read at an index. -/
theorem finish_apply (num : FVec Ideal S4x16x8x4x128x256 .f32) (mx sk : FVec Ideal S4x16x8x4x128x1 .f32) (val : FVec Ideal S4x16x256x8x128 .f32)
    (r : Fin 8192) (n : Fin 4096) : finish num mx sk val (ix2 r n)
      = ∑ k, val (ix5 ⟨r / 2048, by omega⟩ ⟨r / 128 % 16, by omega⟩ k ⟨n / 512, by omega⟩ ⟨n % 128, by omega⟩)
        * Ideal.div (num (ix6 ⟨r / 2048, by omega⟩ ⟨r / 128 % 16, by omega⟩ ⟨n / 512, by omega⟩ ⟨n / 128 % 4, by omega⟩ ⟨r % 128, by omega⟩ k))
          (∑ k', num (ix6 ⟨r / 2048, by omega⟩ ⟨r / 128 % 16, by omega⟩ ⟨n / 512, by omega⟩ ⟨n / 128 % 4, by omega⟩ ⟨r % 128, by omega⟩ k')
            + Ideal.exp (sk (ix6 ⟨r / 2048, by omega⟩ ⟨r / 128 % 16, by omega⟩ ⟨n / 512, by omega⟩ ⟨n / 128 % 4, by omega⟩ ⟨r % 128, by omega⟩ 0)
              - mx (ix6 ⟨r / 2048, by omega⟩ ⟨r / 128 % 16, by omega⟩ ⟨n / 512, by omega⟩ ⟨n / 128 % 4, by omega⟩ ⟨r % 128, by omega⟩ 0))) := by
  unfold finish
  pointwise
  have e : ∀ (b : Fin 4) (n : Fin 16) (h : Fin 8) (j : Fin 4) (i : Fin 128),
      Ideal.hostReduceAdd reducesTo_S4x16x8x4x128x256_S4x16x8x4x128_d5 num 0 (ix5 b n h j i) = ∑ k, num (ix6 b n h j i k) := fun b n h j i => by
    rw [Ideal.hostReduceAdd_single _ (by decide), zero_add]
    exact Finset.sum_congr rfl fun k _ => congrArg num (lift_last _ b n h j i k)
  simp only [e]

/-- The score of key `k` of the two blocks for row `r` and the head column `c` belongs to. -/
def score (xr : S8320x6144.Idx → ℝ) (r : Fin 8192) (c : Fin 4096) (k : Fin 256) : EReal :=
  if r.val % 128 < k.val ∧ k.val ≤ r.val % 128 + 128 ∧ 128 ≤ r.val / 128 % 16 * 128 + k.val then
    (((∑ d : Fin 128, xr (ix2 ⟨r.val / 128 * 128 + k.val - 128, by omega⟩ ⟨4096 + c.val / 512 * 128 + d.val, by omega⟩)
      * xr (ix2 ⟨r.val, by omega⟩ ⟨c.val / 128 * 128 + d.val, by omega⟩)) * (11863283 / 134217728) : ℝ) : EReal)
  else ⊥

/-- The value of key `k` of the two blocks, for row `r` and column `c`. -/
def value (x : FVec Ideal S8320x6144 .f32) (r : Fin 8192) (c : Fin 4096) (k : Fin 256) : EReal :=
  band (extractStridedSlice S4x2048x1024 ![0, 0, 5120] (rows x) slices_S4x2048x6144_S4x2048x1024_0_0_5120)
    (ix5 ⟨r / 2048, by omega⟩ ⟨r / 128 % 16, by omega⟩ k ⟨c / 512, by omega⟩ ⟨c % 128, by omega⟩)

/-- A column slice of the rows read at an index. -/
theorem keys_apply (b : Fin 4) (n : Fin 2048) (d : Fin 1024) :
    extractStridedSlice S4x2048x1024 ![0, 0, 4096] (rows x) slices_S4x2048x6144_S4x2048x1024_0_0_4096 (ix3 b n d)
      = x (ix2 ⟨b.val * 2048 + n.val, by omega⟩ ⟨4096 + d.val, by omega⟩) := by
  unfold rows
  pointwise

/-- The other column slice of the rows read at an index. -/
theorem values_apply (b : Fin 4) (n : Fin 2048) (d : Fin 1024) :
    extractStridedSlice S4x2048x1024 ![0, 0, 5120] (rows x) slices_S4x2048x6144_S4x2048x1024_0_0_5120 (ix3 b n d)
      = x (ix2 ⟨b.val * 2048 + n.val, by omega⟩ ⟨5120 + d.val, by omega⟩) := by
  unfold rows
  pointwise

/-- A value inside the sequence. -/
theorem value_apply (r : Fin 8192) (c : Fin 4096) (k : Fin 256) (h : 128 ≤ r.val / 128 % 16 * 128 + k.val) :
    value x r c k = x (ix2 ⟨r.val / 128 * 128 + k.val - 128, by omega⟩ ⟨5120 + c.val / 512 * 128 + c.val % 128, by omega⟩) := by
  unfold value
  rw [band_apply _ _ _ _ _ _ (by simp only; exact h), values_apply]
  exact congrArg x (congrArg₂ ix2 (Fin.ext (by simp only; omega)) (Fin.ext (by simp only; omega)))

/-- The reference's scores are `score`. -/
theorem scores_eq (X : FVec Ideal S8320x6144 .f32) (xr : S8320x6144.Idx → ℝ)
    (hX : ∀ (r : Fin 8320) (c : Fin 6144), r.val < 8192 → c.val < 5120 → X (ix2 r c) = (xr (ix2 r c) : EReal)) (r : Fin 8192) (c : Fin 4096) (k : Fin 256) :
    scores (band (extractStridedSlice S4x2048x1024 ![0, 0, 4096] (rows X) slices_S4x2048x6144_S4x2048x1024_0_0_4096))
      (queries (rows X)) mask
      (ix6 ⟨r / 2048, by omega⟩ ⟨r / 128 % 16, by omega⟩ ⟨c / 512, by omega⟩ ⟨c / 128 % 4, by omega⟩ ⟨r % 128, by omega⟩ k) = score xr r c k := by
  rw [scores_apply, mask_apply]
  unfold score
  by_cases h : r.val % 128 < k.val ∧ k.val ≤ r.val % 128 + 128 ∧ 128 ≤ r.val / 128 % 16 * 128 + k.val
  · rw [if_pos h, if_pos rfl, if_pos h, Consts.scale, EReal.coe_mul, ← Softmax.coe_sum]
    refine congrArg (· * _) (Finset.sum_congr rfl fun d _ => ?_)
    rw [band_apply _ _ _ _ _ _ (by simp only; exact h.2.2), keys_apply, queries_apply, EReal.coe_mul]
    exact congrArg₂ (· * ·)
      ((hX _ _ (by simp only; omega) (by simp only; omega)).trans
        (congrArg (fun p => (xr p : EReal)) (congrArg₂ ix2 (Fin.ext (by simp only; omega)) (Fin.ext (by simp only; omega)))))
      ((hX _ _ (by simp only; omega) (by simp only; omega)).trans
        (congrArg (fun p => (xr p : EReal)) (congrArg₂ ix2 (Fin.ext (by simp only; omega)) (Fin.ext (by simp only; omega)))))
  · rw [if_neg h, if_neg (by decide), if_neg h]

/-- The whole reference: each element is its row's weighted sum of values. -/
theorem result_apply (sr : S32.Idx → ℝ) (X : FVec Ideal S8320x6144 .f32) (xr : S8320x6144.Idx → ℝ)
    (hX : ∀ (r : Fin 8320) (c : Fin 6144), r.val < 8192 → c.val < 5120 → X (ix2 r c) = (xr (ix2 r c) : EReal))
    (r : Fin 8192) (c : Fin 4096) :
    result (fun p => (sr p : EReal)) X (ix2 r c)
      = Softmax.attn (score xr r c) (sr (ix1 ⟨c.val / 128, by omega⟩)) (value X r c) := by
  unfold result
  rw [finish_apply]
  simp only [expo_apply, rowMax_apply, scores_eq X xr hX, sinkRows_apply]
  have e : (⟨c.val / 512 * 4 + c.val / 128 % 4, by omega⟩ : Fin 32) = ⟨c.val / 128, by omega⟩ := Fin.ext (by simp only; omega)
  simp only [e]
  refine Softmax.reference_form _ (fun k => ?_) _ _
  unfold score
  split
  · exact EReal.coe_ne_top _
  · exact bot_ne_top

end Cert.SwaPromptRefIdeal.Value

end
-- ==== Proof.PromptPiece.lean ====
/- What the prompt kernel leaves in its result array: each tile of queries, head by head, is the reference's tile. -/
module

public import proofs.«01_k».proof.Proof.PromptHead
public import proofs.«01_k».proof.Proof.PromptRef

@[expose] public section

set_option maxRecDepth 16384

noncomputable section

namespace Cert.SwaPromptIdeal.Value

open Cert.SwaPromptIdeal Cert.SwaPromptIdeal.Gen Idealize.ShloMosaic Idealize.ShloMosaic.TcCoe Idealize.SL.Sem
open Idealize.ShloMosaic.Pipeline (Dat)

/-- The two key windows of a query hold the same keys: the tile's 384 keys seen by a query of its row block `r / 128` are the
    256 keys of the block pair, shifted. -/
theorem bridge (X : FVec Ideal S8320x6144 .f32) (xr : S8320x6144.Idx → ℝ) (t : ℕ) (ht : t < 32) (n2 : ℕ) (hn : n2 = t % 8) (h : Fin 8) (j : Fin 4) (r : Fin 256) (d : Fin 128) (b : ℝ)
    (kr : Fin 384 → Fin 128 → ℝ) (w : Fin 384 → EReal)
    (hk : ∀ (k : Fin 384) x, (128 ≤ k.val ∨ 0 < n2) → kr k x = xr (ix2 ⟨256 * t + k.val - 128, by omega⟩ ⟨4096 + (128 * h.val + x.val), by omega⟩))
    (hw : ∀ (k : Fin 384), (128 ≤ k.val ∨ 0 < n2) → w k = X (ix2 ⟨256 * t + k.val - 128, by omega⟩ ⟨5120 + (128 * h.val + d.val), by omega⟩)) :
    Softmax.attn
        (fun k : Fin 384 => if r.val < k.val ∧ k.val ≤ r.val + 128 ∧ (128 ≤ k.val ∨ 0 < n2) then
          (((∑ x, kr k x * xr (ix2 ⟨256 * t + r.val, by omega⟩ ⟨512 * h.val + 128 * j.val + x.val, by omega⟩)) * (11863283 / 134217728) : ℝ) : EReal) else ⊥)
        b w
      = Softmax.attn (SwaPromptRefIdeal.Value.score xr ⟨256 * t + r.val, by omega⟩ ⟨512 * h.val + 128 * j.val + d.val, by omega⟩) b
          (SwaPromptRefIdeal.Value.value X ⟨256 * t + r.val, by omega⟩ ⟨512 * h.val + 128 * j.val + d.val, by omega⟩) := by
  have hr := r.isLt
  symm
  have key : ∀ k : Fin 256, ((256 * t + r.val) % 128 < k.val ∧ k.val ≤ (256 * t + r.val) % 128 + 128 ∧ 128 ≤ (256 * t + r.val) / 128 % 16 * 128 + k.val)
      ↔ (r.val < k.val + 128 * (r.val / 128) ∧ k.val + 128 * (r.val / 128) ≤ r.val + 128 ∧ (128 ≤ k.val + 128 * (r.val / 128) ∨ 0 < n2)) := fun k => by omega
  refine Softmax.attn_transfer (fun k : Fin 256 => (⟨k.val + 128 * (r.val / 128), by omega⟩ : Fin 384)) ?_ _ _ _ _ _ (fun k => ?_) (fun k hk' => ?_) (fun k hk' => ?_)
  · intro a a' e
    have := congrArg Fin.val e
    simp only at this
    exact Fin.ext (by omega)
  · unfold SwaPromptRefIdeal.Value.score
    simp only
    by_cases hc : (256 * t + r.val) % 128 < k.val ∧ k.val ≤ (256 * t + r.val) % 128 + 128 ∧ 128 ≤ (256 * t + r.val) / 128 % 16 * 128 + k.val
    · have hc' := (key k).1 hc
      rw [if_pos hc, if_pos hc']
      congr 2
      refine Finset.sum_congr rfl fun x _ => ?_
      rw [hk _ x hc'.2.2]
      exact congrArg₂ (· * ·) (congrArg xr (congrArg₂ ix2 (Fin.ext (by simp only; omega)) (Fin.ext (by simp only; omega))))
        (congrArg xr (congrArg₂ ix2 (Fin.ext (by simp only)) (Fin.ext (by simp only; omega))))
    · rw [if_neg hc, if_neg fun hc' => hc ((key k).2 hc')]
  · refine if_neg fun hc => hk' ?_
    exact ⟨⟨k.val - 128 * (r.val / 128), by omega⟩, Fin.ext (by simp only; omega)⟩
  · have hc : (256 * t + r.val) % 128 < k.val ∧ k.val ≤ (256 * t + r.val) % 128 + 128 ∧ 128 ≤ (256 * t + r.val) / 128 % 16 * 128 + k.val := by
      by_contra hc
      exact hk' (if_neg hc)
    rw [SwaPromptRefIdeal.Value.value_apply _ _ _ _ (by simp only; exact hc.2.2), hw _ ((key k).1 hc).2.2]
    exact congrArg X (congrArg₂ ix2 (Fin.ext (by simp only; omega)) (Fin.ext (by simp only; omega)))

variable (m : (ℓ : Loc nD τ sig) → Buf (Elt Ideal) ℓ)

/-- The block each window reads or writes at a grid point, decided over the grid. -/
theorem idx : ∀ t : Fin cfg0.N, win0_1.index t = ![t.val, 0] ∧ win0_2.index t = ![2 * t.val - min (t.val % 8) 1, 4] ∧ win0_3.index t = ![t.val, 4] ∧ win0_4.index t = ![2 * t.val - min (t.val % 8) 1, 5] ∧ win0_5.index t = ![t.val, 5] ∧ win0_6.index t = ![t.val, 0] ∧ (grid0.coords t 2).val = t.val % 8 := (by decide +kernel : ∀ t : Fin grid0.N, _)

/-- The grid has 32 points. -/
theorem point_lt (t : Fin cfg0.N) : t.val < 32 := lt_of_lt_of_eq t.isLt (by decide +kernel)

/-- The query block read at an index. -/
theorem x1_apply (c : Dev nD) (t : Fin cfg0.N) (a : Fin 256) (b : Fin 4096) :
    X0_1 m c t (ix2 a b) = m ((c : Thread nD τ).loc main_arg1) (ix2 ⟨256 * t.val + a.val, by have := point_lt t; omega⟩ ⟨b.val, by omega⟩) := by
  unfold X0_1 Pipeline.Window.fill
  rw [dif_pos (moved0_1 t _)]
  blk_ext [iblk, V, idx t]

/-- The own keys' block read at an index. -/
theorem x3_apply (c : Dev nD) (t : Fin cfg0.N) (a : Fin 256) (b : Fin 1024) :
    X0_3 m c t (ix2 a b) = m ((c : Thread nD τ).loc main_arg1) (ix2 ⟨256 * t.val + a.val, by have := point_lt t; omega⟩ ⟨4096 + b.val, by omega⟩) := by
  unfold X0_3 Pipeline.Window.fill
  rw [dif_pos (moved0_3 t _)]
  blk_ext [iblk, V, idx t]

/-- The own values' block read at an index. -/
theorem x5_apply (c : Dev nD) (t : Fin cfg0.N) (a : Fin 256) (b : Fin 1024) :
    X0_5 m c t (ix2 a b) = m ((c : Thread nD τ).loc main_arg1) (ix2 ⟨256 * t.val + a.val, by have := point_lt t; omega⟩ ⟨5120 + b.val, by omega⟩) := by
  unfold X0_5 Pipeline.Window.fill
  rw [dif_pos (moved0_5 t _)]
  blk_ext [iblk, V, idx t]

/-- The previous keys' block read at an index. -/
theorem x2_apply (c : Dev nD) (t : Fin cfg0.N) (a : Fin 128) (b : Fin 1024) :
    iblk m c 2 t (ix2 a b) = m ((c : Thread nD τ).loc main_arg1) (ix2 ⟨128 * (2 * t.val - min (t.val % 8) 1) + a.val, by have := point_lt t; omega⟩ ⟨4096 + b.val, by omega⟩) := by
  blk_ext [iblk, V, idx t]

/-- The previous values' block read at an index. -/
theorem x4_apply (c : Dev nD) (t : Fin cfg0.N) (a : Fin 128) (b : Fin 1024) :
    iblk m c 4 t (ix2 a b) = m ((c : Thread nD τ).loc main_arg1) (ix2 ⟨128 * (2 * t.val - min (t.val % 8) 1) + a.val, by have := point_lt t; omega⟩ ⟨5120 + b.val, by omega⟩) := by
  blk_ext [iblk, V, idx t]

/-- The sinks read at an index. -/
theorem x0_apply (c : Dev nD) (t : Fin cfg0.N) (a : Fin 32) :
    iblk m c 0 t (ix1 a) = m ((c : Thread nD τ).loc main_arg0) (ix1 a) := by
  have h0 : ∀ t : Fin cfg0.N, win0_0.index t = ![0] := (by decide +kernel : ∀ t : Fin grid0.N, win0_0.index t = ![0])
  blk_ext [iblk, V, h0 t]

/-- One stored piece, from its loads: the reference's values at the piece's place. -/
theorem piece (sr : S32.Idx → ℝ) (X : FVec Ideal S8320x6144 .f32) (xr : S8320x6144.Idx → ℝ)
    (hX : ∀ (r : Fin 8320) (c : Fin 6144), r.val < 8192 → c.val < 5120 → X (ix2 r c) = (xr (ix2 r c) : EReal)) (t : Fin cfg0.N) (h : Fin 8) (j : Fin 4) (o ok g : ℕ)
    (ho : o = 512 * h.val + 128 * j.val) (hok : ok = 128 * h.val) (hg : g = 4 * h.val + j.val)
    (sl : S128x1024.Slices ![0, 256 * j.val] S128x256) (q : Fin 4 → Vec Ideal S256x128 .f32) (kp : Vec Ideal S128x128 .f32)
    (kc : Vec Ideal S256x128 .f32) (vp : Vec Ideal S128x128 .f32) (vc : Vec Ideal S256x128 .f32) (s : Fin 4 → Elt Ideal .f32) (r : Fin 256) (d : Fin 128)
    (hq : ∀ x : Fin 128, q j (ix2 r x) = (xr (ix2 ⟨256 * t.val + r.val, by have := point_lt t; omega⟩ ⟨o + x.val, by omega⟩) : EReal))
    (hkp : ∀ (a x : Fin 128), kp (ix2 a x)
      = (xr (ix2 ⟨128 * (2 * t.val - min (t.val % 8) 1) + a.val, by have := point_lt t; omega⟩ ⟨4096 + (ok + x.val), by omega⟩) : EReal))
    (hkc : ∀ (a : Fin 256) (x : Fin 128), kc (ix2 a x) = (xr (ix2 ⟨256 * t.val + a.val, by have := point_lt t; omega⟩ ⟨4096 + (ok + x.val), by omega⟩) : EReal))
    (hvp : ∀ (a x : Fin 128), vp (ix2 a x)
      = X (ix2 ⟨128 * (2 * t.val - min (t.val % 8) 1) + a.val, by have := point_lt t; omega⟩ ⟨5120 + (ok + x.val), by omega⟩))
    (hvc : ∀ (a : Fin 256) (x : Fin 128), vc (ix2 a x) = X (ix2 ⟨256 * t.val + a.val, by have := point_lt t; omega⟩ ⟨5120 + (ok + x.val), by omega⟩))
    (hs : s j = (sr (ix1 ⟨g, by omega⟩) : EReal)) :
    part j sl (head (grid0.coords t) q kp kc vp vc s) (ix2 r d)
      = SwaPromptRefIdeal.Value.result (fun p => (sr p : EReal)) X
          (ix2 ⟨256 * t.val + r.val, by have := point_lt t; omega⟩ ⟨o + d.val, by omega⟩) := by
  subst ho hok hg
  have ht := point_lt t
  obtain ⟨-, -, -, -, -, -, hi⟩ := idx t
  rw [part_apply, head_apply (grid0.coords t) q kp kc vp vc s j r d
    (fun x => xr (ix2 ⟨256 * t.val + r.val, by omega⟩ ⟨512 * h.val + 128 * j.val + x.val, by omega⟩))
    (fun k x => if k.val < 128 then xr (ix2 ⟨128 * (2 * t.val - min (t.val % 8) 1) + k.val % 128, by omega⟩ ⟨4096 + (128 * h.val + x.val), by omega⟩)
      else xr (ix2 ⟨256 * t.val + (k.val - 128), by omega⟩ ⟨4096 + (128 * h.val + x.val), by omega⟩)) _ hq ?_ hs]
  · rw [bridge X xr t.val ht _ hi h j r d _ _ _ ?_ ?_, SwaPromptRefIdeal.Value.result_apply sr X xr hX]
    · have e : (⟨4 * h.val + j.val, by omega⟩ : Fin 32) = ⟨(512 * h.val + 128 * j.val + d.val) / 128, by omega⟩ := Fin.ext (by simp only; omega)
      rw [e]
    · intro k x hk
      split
      · exact congrArg xr (congrArg₂ ix2 (Fin.ext (by simp only; omega)) rfl)
      · exact congrArg xr (congrArg₂ ix2 (Fin.ext (by simp only; omega)) rfl)
    · intro k hk
      split
      · rw [hvp]
        exact congrArg X (congrArg₂ ix2 (Fin.ext (by simp only; omega)) rfl)
      · rw [hvc]
        exact congrArg X (congrArg₂ ix2 (Fin.ext (by simp only; omega)) rfl)
  · intro k x
    split
    · rw [hkp]
      exact congrArg (fun p => (xr p : EReal)) (congrArg₂ ix2 (Fin.ext (by simp only; omega)) rfl)
    · rw [hkc]

end Cert.SwaPromptIdeal.Value
end
-- ==== Proof.PromptKernel.lean ====
/- What the prompt kernel leaves in its result array: the reference's result. -/
module

public import proofs.«01_k».proof.Proof.PromptPiece
public import proofs.«01_k».proof.Proof.PromptRef

@[expose] public section

set_option maxRecDepth 16384

noncomputable section

namespace Cert.SwaPromptIdeal.Value

open Cert.SwaPromptIdeal Cert.SwaPromptIdeal.Gen Idealize.ShloMosaic Idealize.ShloMosaic.TcCoe Idealize.SL.Sem
open Idealize.ShloMosaic.Pipeline (Dat)

variable (m : (ℓ : Loc nD τ sig) → Buf (Elt Ideal) ℓ)

/-- Where a head's sink is read. -/
theorem sink_off : ∀ (t : Fin cfg0.N) (h : Fin 8) (j : Fin 4),
    k0_off1 (grid0.coords t) (BitVec.ofNat 32 h.val) (BitVec.ofNat 32 j.val) = ![4 * h.val + j.val] :=
  (by decide +kernel : ∀ (t : Fin grid0.N) (h : Fin 8) (j : Fin 4), _)

/-- An entry of a rectangle of unit steps cut from columns of a matrix. -/
theorem cut_apply {n0 n1 p q : ℕ} (o : ℕ) (inb : ∀ a, (![0, o] : Fin 2 → ℕ) a + (![p, q] : Fin 2 → ℕ) a ≤ (⟨2, ![n0, n1]⟩ : Shape).size a)
    (a : Fin p) (b : Fin q) (ha : a.val < n0) (hb : o + b.val < n1) :
    (Rect.unit (s := ⟨2, ![n0, n1]⟩) ![0, o] ![p, q] inb).idx (ix2 a b) = ix2 ⟨a.val, ha⟩ ⟨o + b.val, hb⟩ := by
  funext d
  fin_cases d
  · exact Fin.ext ((congrArg (0 + ·) (Nat.one_mul _)).trans (Nat.zero_add _))
  · exact Fin.ext (congrArg (o + ·) (Nat.one_mul _))

/-- What a store writes at its place in the result: the piece of head `h` and group `j`. -/
theorem store (c : Dev nD) (sr : S32.Idx → ℝ) (xr : S8320x6144.Idx → ℝ)
    (h0 : ∀ p, m ((c : Thread nD τ).loc main_arg0) p = (sr p : EReal))
    (h1 : ∀ (r : Fin 8320) (c' : Fin 6144), r.val < 8192 → c'.val < 5120 → m ((c : Thread nD τ).loc main_arg1) (ix2 r c') = (xr (ix2 r c') : EReal))
    (t : Fin cfg0.N) (y : ((cfg0.win 6).xblock (cfg0.grid.coords t)).Idx) (x : S256x128.Idx) (h : Fin 8) (j : Fin 4)
    (o ok : ℕ) (u w : BitVec 32) (ho : o = 512 * h.val + 128 * j.val) (hok : ok = 128 * h.val) (hu : u = BitVec.ofNat 32 h.val) (hw : w = BitVec.ofNat 32 j.val)
    (sl : S128x1024.Slices ![0, 256 * j.val] S128x256)
    (q : Fin 4 → Vec Ideal S256x128 .f32) (kp : Vec Ideal S128x128 .f32)
    (kc : Vec Ideal S256x128 .f32) (vp : Vec Ideal S128x128 .f32) (vc : Vec Ideal S256x128 .f32) (s : Fin 4 → Elt Ideal .f32)
    (fq : ∀ a, (![0, o] : Fin 2 → ℕ) a + (![256, 128] : Fin 2 → ℕ) a ≤ S256x4096.size a)
    (fp : ∀ a, (![0, ok] : Fin 2 → ℕ) a + (![128, 128] : Fin 2 → ℕ) a ≤ S128x1024.size a)
    (fc : ∀ a, (![0, ok] : Fin 2 → ℕ) a + (![256, 128] : Fin 2 → ℕ) a ≤ S256x1024.size a)
    (fs : ∀ a, k0_off1 (grid0.coords t) u w a + (![1] : Fin 1 → ℕ) a ≤ S32.size a)
    (hq : q j = View.ld (X0_1 m c t) (Rect.unit ![0, o] ![256, 128] fq))
    (hkp : kp = View.ld (iblk m c 2 t) (Rect.unit ![0, ok] ![128, 128] fp))
    (hkc : kc = View.ld (X0_3 m c t) (Rect.unit ![0, ok] ![256, 128] fc))
    (hvp : vp = View.ld (iblk m c 4 t) (Rect.unit ![0, ok] ![128, 128] fp))
    (hvc : vc = View.ld (X0_5 m c t) (Rect.unit ![0, ok] ![256, 128] fc))
    (hs : s j = View.ld (iblk m c 0 t) (Rect.unit (k0_off1 (grid0.coords t) u w) ![1] fs) (Shape.Idx.first (by change 0 < (⟨1, ![1]⟩ : Shape).numel; decide)))
    (e0 : ((win0 6).xinj (grid0.coords t) y 0).val = (x 0).val) (e1 : ((win0 6).xinj (grid0.coords t) y 1).val = o + (x 1).val) :
    part j sl (head (grid0.coords t) q kp kc vp vc s) x
      = SwaPromptRefIdeal.Value.result (fun p => (sr p : EReal)) (m ((c : Thread nD τ).loc main_arg1)) (((View.whole main_v0).slice ((win0 6).rect t)).emb y) := by
  obtain ⟨i1, i2, i3, i4, i5, i6, hi⟩ := idx t
  have ht := point_lt t
  obtain ⟨r, d, rfl⟩ : ∃ (r : Fin 256) (d : Fin 128), x = ix2 r d := ⟨x 0, x 1, by funext a; fin_cases a <;> rfl⟩
  have e0' : (y 0).val = r.val := e0
  have e1' : (y 1).val = o + d.val := e1
  subst hu hw
  refine (piece sr _ xr h1 t h j o ok (4 * h.val + j.val) ho hok rfl sl _ _ _ _ _ _ r d ?_ ?_ ?_ ?_ ?_ ?_).trans (congrArg _ ?_)
  · intro x
    rw [hq]
    refine Eq.trans ?_ ((x1_apply m c t r ⟨o + x.val, by omega⟩).trans (h1 _ _ (by simp only; omega) (by simp only; omega)))
    exact congrArg (X0_1 m c t) (cut_apply _ _ _ _ _ _)
  · intro a x
    rw [hkp]
    refine Eq.trans ?_ ((x2_apply m c t a ⟨ok + x.val, by omega⟩).trans (h1 _ _ (by simp only; omega) (by simp only; omega)))
    exact congrArg (iblk m c 2 t) (cut_apply _ _ _ _ _ _)
  · intro a x
    rw [hkc]
    refine Eq.trans ?_ ((x3_apply m c t a ⟨ok + x.val, by omega⟩).trans (h1 _ _ (by simp only; omega) (by simp only; omega)))
    exact congrArg (X0_3 m c t) (cut_apply _ _ _ _ _ _)
  · intro a x
    rw [hvp]
    refine Eq.trans ?_ (x4_apply m c t a ⟨ok + x.val, by omega⟩)
    exact congrArg (iblk m c 4 t) (cut_apply _ _ _ _ _ _)
  · intro a x
    rw [hvc]
    refine Eq.trans ?_ (x5_apply m c t a ⟨ok + x.val, by omega⟩)
    exact congrArg (X0_5 m c t) (cut_apply _ _ _ _ _ _)
  · rw [hs]
    refine Eq.trans ?_ ((x0_apply m c t ⟨4 * h.val + j.val, by omega⟩).trans (h0 _))
    refine congrArg (iblk m c 0 t) ?_
    funext b
    fin_cases b
    exact Fin.ext (congrFun (sink_off t h j) 0)
  · blk_ext [i6]

set_option maxHeartbeats 4000000 in
/-- The result array after the run is the reference's result. -/
theorem final (c : Dev nD) (sr : S32.Idx → ℝ) (xr : S8320x6144.Idx → ℝ)
    (h0 : ∀ p, m ((c : Thread nD τ).loc main_arg0) p = (sr p : EReal))
    (h1 : ∀ (r : Fin 8320) (c' : Fin 6144), r.val < 8192 → c'.val < 5120 → m ((c : Thread nD τ).loc main_arg1) (ix2 r c') = (xr (ix2 r c') : EReal)) :
    (dats m 0 c).arrAt 6 (cfgs 0).N = SwaPromptRefIdeal.Value.result (fun p => (sr p : EReal)) (m ((c : Thread nD τ).loc main_arg1)) := by
  refine (dats m 0 c).arrAt_eq_of_covers 6 _ (by decide +kernel) fun t _ y => ?_
  rw [after0_6]
  unfold outsAt0
  frame_out
  canon_tiles x e
  · exact store m c sr xr h0 h1 t y x 7 3 3968 896 _ _ (by decide) (by decide) (by rfl) (by rfl) (by decide) ![_, _, _, _] _ _ _ _ ![_, _, _, _] _ _ _ _ (by rfl) (by rfl) (by rfl) (by rfl) (by rfl) (by rfl) e0 (by omega)
  · exact store m c sr xr h0 h1 t y x 7 2 3840 896 _ _ (by decide) (by decide) (by rfl) (by rfl) (by decide) ![_, _, _, _] _ _ _ _ ![_, _, _, _] _ _ _ _ (by rfl) (by rfl) (by rfl) (by rfl) (by rfl) (by rfl) e0 (by omega)
  · exact store m c sr xr h0 h1 t y x 7 1 3712 896 _ _ (by decide) (by decide) (by rfl) (by rfl) (by decide) ![_, _, _, _] _ _ _ _ ![_, _, _, _] _ _ _ _ (by rfl) (by rfl) (by rfl) (by rfl) (by rfl) (by rfl) e0 (by omega)
  · exact store m c sr xr h0 h1 t y x 7 0 3584 896 _ _ (by decide) (by decide) (by rfl) (by rfl) (by decide) ![_, _, _, _] _ _ _ _ ![_, _, _, _] _ _ _ _ (by rfl) (by rfl) (by rfl) (by rfl) (by rfl) (by rfl) e0 (by omega)
  · exact store m c sr xr h0 h1 t y x 6 3 3456 768 _ _ (by decide) (by decide) (by rfl) (by rfl) (by decide) ![_, _, _, _] _ _ _ _ ![_, _, _, _] _ _ _ _ (by rfl) (by rfl) (by rfl) (by rfl) (by rfl) (by rfl) e0 (by omega)
  · exact store m c sr xr h0 h1 t y x 6 2 3328 768 _ _ (by decide) (by decide) (by rfl) (by rfl) (by decide) ![_, _, _, _] _ _ _ _ ![_, _, _, _] _ _ _ _ (by rfl) (by rfl) (by rfl) (by rfl) (by rfl) (by rfl) e0 (by omega)
  · exact store m c sr xr h0 h1 t y x 6 1 3200 768 _ _ (by decide) (by decide) (by rfl) (by rfl) (by decide) ![_, _, _, _] _ _ _ _ ![_, _, _, _] _ _ _ _ (by rfl) (by rfl) (by rfl) (by rfl) (by rfl) (by rfl) e0 (by omega)
  · exact store m c sr xr h0 h1 t y x 6 0 3072 768 _ _ (by decide) (by decide) (by rfl) (by rfl) (by decide) ![_, _, _, _] _ _ _ _ ![_, _, _, _] _ _ _ _ (by rfl) (by rfl) (by rfl) (by rfl) (by rfl) (by rfl) e0 (by omega)
  · exact store m c sr xr h0 h1 t y x 5 3 2944 640 _ _ (by decide) (by decide) (by rfl) (by rfl) (by decide) ![_, _, _, _] _ _ _ _ ![_, _, _, _] _ _ _ _ (by rfl) (by rfl) (by rfl) (by rfl) (by rfl) (by rfl) e0 (by omega)
  · exact store m c sr xr h0 h1 t y x 5 2 2816 640 _ _ (by decide) (by decide) (by rfl) (by rfl) (by decide) ![_, _, _, _] _ _ _ _ ![_, _, _, _] _ _ _ _ (by rfl) (by rfl) (by rfl) (by rfl) (by rfl) (by rfl) e0 (by omega)
  · exact store m c sr xr h0 h1 t y x 5 1 2688 640 _ _ (by decide) (by decide) (by rfl) (by rfl) (by decide) ![_, _, _, _] _ _ _ _ ![_, _, _, _] _ _ _ _ (by rfl) (by rfl) (by rfl) (by rfl) (by rfl) (by rfl) e0 (by omega)
  · exact store m c sr xr h0 h1 t y x 5 0 2560 640 _ _ (by decide) (by decide) (by rfl) (by rfl) (by decide) ![_, _, _, _] _ _ _ _ ![_, _, _, _] _ _ _ _ (by rfl) (by rfl) (by rfl) (by rfl) (by rfl) (by rfl) e0 (by omega)
  · exact store m c sr xr h0 h1 t y x 4 3 2432 512 _ _ (by decide) (by decide) (by rfl) (by rfl) (by decide) ![_, _, _, _] _ _ _ _ ![_, _, _, _] _ _ _ _ (by rfl) (by rfl) (by rfl) (by rfl) (by rfl) (by rfl) e0 (by omega)
  · exact store m c sr xr h0 h1 t y x 4 2 2304 512 _ _ (by decide) (by decide) (by rfl) (by rfl) (by decide) ![_, _, _, _] _ _ _ _ ![_, _, _, _] _ _ _ _ (by rfl) (by rfl) (by rfl) (by rfl) (by rfl) (by rfl) e0 (by omega)
  · exact store m c sr xr h0 h1 t y x 4 1 2176 512 _ _ (by decide) (by decide) (by rfl) (by rfl) (by decide) ![_, _, _, _] _ _ _ _ ![_, _, _, _] _ _ _ _ (by rfl) (by rfl) (by rfl) (by rfl) (by rfl) (by rfl) e0 (by omega)
  · exact store m c sr xr h0 h1 t y x 4 0 2048 512 _ _ (by decide) (by decide) (by rfl) (by rfl) (by decide) ![_, _, _, _] _ _ _ _ ![_, _, _, _] _ _ _ _ (by rfl) (by rfl) (by rfl) (by rfl) (by rfl) (by rfl) e0 (by omega)
  · exact store m c sr xr h0 h1 t y x 3 3 1920 384 _ _ (by decide) (by decide) (by rfl) (by rfl) (by decide) ![_, _, _, _] _ _ _ _ ![_, _, _, _] _ _ _ _ (by rfl) (by rfl) (by rfl) (by rfl) (by rfl) (by rfl) e0 (by omega)
  · exact store m c sr xr h0 h1 t y x 3 2 1792 384 _ _ (by decide) (by decide) (by rfl) (by rfl) (by decide) ![_, _, _, _] _ _ _ _ ![_, _, _, _] _ _ _ _ (by rfl) (by rfl) (by rfl) (by rfl) (by rfl) (by rfl) e0 (by omega)
  · exact store m c sr xr h0 h1 t y x 3 1 1664 384 _ _ (by decide) (by decide) (by rfl) (by rfl) (by decide) ![_, _, _, _] _ _ _ _ ![_, _, _, _] _ _ _ _ (by rfl) (by rfl) (by rfl) (by rfl) (by rfl) (by rfl) e0 (by omega)
  · exact store m c sr xr h0 h1 t y x 3 0 1536 384 _ _ (by decide) (by decide) (by rfl) (by rfl) (by decide) ![_, _, _, _] _ _ _ _ ![_, _, _, _] _ _ _ _ (by rfl) (by rfl) (by rfl) (by rfl) (by rfl) (by rfl) e0 (by omega)
  · exact store m c sr xr h0 h1 t y x 2 3 1408 256 _ _ (by decide) (by decide) (by rfl) (by rfl) (by decide) ![_, _, _, _] _ _ _ _ ![_, _, _, _] _ _ _ _ (by rfl) (by rfl) (by rfl) (by rfl) (by rfl) (by rfl) e0 (by omega)
  · exact store m c sr xr h0 h1 t y x 2 2 1280 256 _ _ (by decide) (by decide) (by rfl) (by rfl) (by decide) ![_, _, _, _] _ _ _ _ ![_, _, _, _] _ _ _ _ (by rfl) (by rfl) (by rfl) (by rfl) (by rfl) (by rfl) e0 (by omega)
  · exact store m c sr xr h0 h1 t y x 2 1 1152 256 _ _ (by decide) (by decide) (by rfl) (by rfl) (by decide) ![_, _, _, _] _ _ _ _ ![_, _, _, _] _ _ _ _ (by rfl) (by rfl) (by rfl) (by rfl) (by rfl) (by rfl) e0 (by omega)
  · exact store m c sr xr h0 h1 t y x 2 0 1024 256 _ _ (by decide) (by decide) (by rfl) (by rfl) (by decide) ![_, _, _, _] _ _ _ _ ![_, _, _, _] _ _ _ _ (by rfl) (by rfl) (by rfl) (by rfl) (by rfl) (by rfl) e0 (by omega)
  · exact store m c sr xr h0 h1 t y x 1 3 896 128 _ _ (by decide) (by decide) (by rfl) (by rfl) (by decide) ![_, _, _, _] _ _ _ _ ![_, _, _, _] _ _ _ _ (funext fun x => congrFun ((hs0_1 t).read_unread (X0_1 m c t)) _) (by rfl) (by rfl) (by rfl) (by rfl) (by rfl) e0 (by omega)
  · exact store m c sr xr h0 h1 t y x 1 2 768 128 _ _ (by decide) (by decide) (by rfl) (by rfl) (by decide) ![_, _, _, _] _ _ _ _ ![_, _, _, _] _ _ _ _ (funext fun x => congrFun ((hs0_1 t).read_unread (X0_1 m c t)) _) (by rfl) (by rfl) (by rfl) (by rfl) (by rfl) e0 (by omega)
  · exact store m c sr xr h0 h1 t y x 1 1 640 128 _ _ (by decide) (by decide) (by rfl) (by rfl) (by decide) ![_, _, _, _] _ _ _ _ ![_, _, _, _] _ _ _ _ (funext fun x => congrFun ((hs0_1 t).read_unread (X0_1 m c t)) _) (by rfl) (by rfl) (by rfl) (by rfl) (by rfl) e0 (by omega)
  · exact store m c sr xr h0 h1 t y x 1 0 512 128 _ _ (by decide) (by decide) (by rfl) (by rfl) (by decide) ![_, _, _, _] _ _ _ _ ![_, _, _, _] _ _ _ _ (funext fun x => congrFun ((hs0_1 t).read_unread (X0_1 m c t)) _) (by rfl) (by rfl) (by rfl) (by rfl) (by rfl) e0 (by omega)
  · exact store m c sr xr h0 h1 t y x 0 3 384 0 _ _ (by decide) (by decide) (by rfl) (by rfl) (by decide) ![_, _, _, _] _ _ _ _ ![_, _, _, _] _ _ _ _ (by rfl) (by rfl) (by rfl) (by rfl) (by rfl) (by rfl) e0 (by omega)
  · exact store m c sr xr h0 h1 t y x 0 2 256 0 _ _ (by decide) (by decide) (by rfl) (by rfl) (by decide) ![_, _, _, _] _ _ _ _ ![_, _, _, _] _ _ _ _ (by rfl) (by rfl) (by rfl) (by rfl) (by rfl) (by rfl) e0 (by omega)
  · exact store m c sr xr h0 h1 t y x 0 1 128 0 _ _ (by decide) (by decide) (by rfl) (by rfl) (by decide) ![_, _, _, _] _ _ _ _ ![_, _, _, _] _ _ _ _ (by rfl) (by rfl) (by rfl) (by rfl) (by rfl) (by rfl) e0 (by omega)
  · exact store m c sr xr h0 h1 t y x 0 0 0 0 _ _ (by decide) (by decide) (by rfl) (by rfl) (by decide) ![_, _, _, _] _ _ _ _ ![_, _, _, _] _ _ _ _ (by rfl) (by rfl) (by rfl) (by rfl) (by rfl) (by rfl) e0 (by omega)

end Cert.SwaPromptIdeal.Value
end
-- ==== Proof.PromptClaim.lean ====
/- The prompt kernel's value claim: from finite sinks, queries and keys its result is the reference's. -/
module

public import proofs.«01_k».proof.Defs
public import proofs.«01_k».proof.Proof.PromptKernel
public import proofs.«01_k».proof.Proof.Gen.Pre_prompt_finite

@[expose] public section

set_option maxRecDepth 16384

noncomputable section

namespace Cert.PromptClaim

open Idealize.ShloMosaic Idealize.ShloMosaic.TcCoe Idealize.SL.Sem

/-- An extended real of absolute value below infinity is real. -/
theorem finite_of_abs (x : Ideal .f32) (h : FloatOps.cmpf (F := Ideal) .olt (FloatOps.hostAbsf (F := Ideal) x) (Ideal.ofBits .f32 0x7F800000#32) = 1#1) :
    ((x : EReal).toReal : EReal) = x := by
  have h' : max (x : EReal) (-x) < ⊤ := by
    rw [← Consts.plus_inf]
    exact (Ideal.cmp_olt_eq_one _ _).1 h
  refine EReal.coe_toReal (fun e => ?_) (fun e => ?_)
  · rw [e] at h'
    simp at h'
  · rw [e] at h'
    simp at h'

open Cert.SwaPromptIdeal in
/-- Both run, the kernel's result is the reference's. -/
theorem claim : Cert.algebraic_SwaPromptIdeal_SwaPromptRefIdeal_pre_prompt_finite := by
  intro m ρ m' ρ' hp hagree
  have h0 : ∀ (c : Dev nD) p, m ((c : Thread nD τ).loc main_arg0) p = (((m ((c : Thread nD τ).loc main_arg0) p : EReal).toReal : ℝ) : EReal) := fun c p =>
    (finite_of_abs _ (congrFun (hp c).1 p)).symm
  have h1 : ∀ (c : Dev nD) (r : Fin 8320) (c' : Fin 6144), r.val < 8192 → c'.val < 5120 →
      m ((c : Thread nD τ).loc main_arg1) (ix2 r c') = (((m ((c : Thread nD τ).loc main_arg1) (ix2 r c') : EReal).toReal : ℝ) : EReal) := fun c r c' hr hc => by
    refine (finite_of_abs _ (Eq.trans ?_ (congrFun (hp c).2 (ix2 ⟨r.val, hr⟩ ⟨c'.val, hc⟩)))).symm
    refine congrArg (fun x => FloatOps.cmpf (F := Ideal) (φ := .f32) .olt (FloatOps.hostAbsf (F := Ideal) x) (Ideal.ofBits .f32 0x7F800000#32)) ?_
    refine congrArg (m ((c : Thread nD τ).loc main_arg1)) ?_
    funext b
    fin_cases b
    · exact Fin.ext (Nat.zero_add _).symm
    · exact Fin.ext (Nat.zero_add _).symm
  refine ⟨fun c => SwaPromptRefIdeal.Value.result (m ((c : Thread nD τ).loc main_arg0)) (m ((c : Thread nD τ).loc main_arg1)), (θ_run defs _ _).mono (fun _ h c => ?_) (Value.run_blocks m ρ), ?_⟩
  · refine ⟨(h c).1.trans ?_, (h c).2⟩
    refine (Value.final m c (fun p => (m ((c : Thread nD τ).loc main_arg0) p : EReal).toReal) (fun p => (m ((c : Thread nD τ).loc main_arg1) p : EReal).toReal) (h0 c) (h1 c)).trans ?_
    exact congrArg (fun s => SwaPromptRefIdeal.Value.result s _) (funext fun p => (h0 c p).symm)
  · refine (θ_run Cert.SwaPromptRefIdeal.defs _ _).mono (fun _ h c => ⟨(h c).1.trans ?_, (h c).2⟩) (SwaPromptRefIdeal.Value.run m' ρ')
    rw [SwaPromptRefIdeal.Value.res_eq, (hagree c).1, (hagree c).2]

end Cert.PromptClaim
end
-- ==== Proof.GateFrame.lean ====
module

public import proofs.«01_k».proof.Proof.Gen.GateUpIdeal.Frame
public import proofs.«01_k».proof.Proof.Gen.GateUpIdeal.Skeleton
public import Idealize.ShloMosaic.Lib.Pipeline.TableIdle
public import Idealize.ShloMosaic.Lib.VecWindow
public import Idealize.ShloMosaic.Lib.WholeRead
public import Idealize.ShloMosaic.Lib.Pipeline.Value
public import Idealize.ShloMosaic.Lib.Claim

/-! The frame of the gate and up call.  The second result, the down weight in half precision, is written only while
the first row block runs; at every later point the body leaves it alone, and at the very last point the block of
zeros that was stored at the end of the first row block is written back once more. -/

@[expose] public section

set_option maxRecDepth 16384

noncomputable section

namespace Cert.GateUpIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.GateUpIdeal.Gen

variable {F : FTy → Type} [FloatOps F]

/-- The resources of the program. -/
abbrev Res (F : FTy → Type) := MT nD τ sig Unit (Elt F) ℕ (UR sig nD τ) ℕ

/-! ## Which points do what -/

/-- A column block of real columns. -/
theorem gate_iff : ∀ t : Fin cfg0.N, k0_cond1 (grid0.coords t) = 1#1 ↔ t.val % 44 < 43 :=
  (by decide +kernel : ∀ t : Fin grid0.N, k0_cond1 (grid0.coords t) = 1#1 ↔ t.val % 44 < 43)

/-- The padding column block. -/
theorem pad_iff : ∀ t : Fin cfg0.N, k0_cond2 (grid0.coords t) = 1#1 ↔ ¬ t.val % 44 < 43 :=
  (by decide +kernel : ∀ t : Fin grid0.N, k0_cond2 (grid0.coords t) = 1#1 ↔ ¬ t.val % 44 < 43)

/-- A block of the down weight. -/
theorem down_iff : ∀ t : Fin cfg0.N, k0_cond3 (grid0.coords t) = 1#1 ↔ t.val < 43 :=
  (by decide +kernel : ∀ t : Fin grid0.N, k0_cond3 (grid0.coords t) = 1#1 ↔ t.val < 43)

/-- The padding block of the down weight. -/
theorem downpad_iff : ∀ t : Fin cfg0.N, k0_cond4 (grid0.coords t) = 1#1 ↔ t.val = 43 :=
  (by decide +kernel : ∀ t : Fin grid0.N, k0_cond4 (grid0.coords t) = 1#1 ↔ t.val = 43)

/-- The first result is stored into at every point. -/
theorem live4 : ∀ t : Fin cfg0.N, cfg0.idle 4 (grid0.coords t) = false :=
  (by decide +kernel : ∀ t : Fin grid0.N, cfg0.idle 4 (grid0.coords t) = false)

/-- The second result is stored into while the first row block runs. -/
theorem live5 : ∀ t : Fin cfg0.N, t.val < 44 → cfg0.idle 5 (grid0.coords t) = false :=
  (by decide +kernel : ∀ t : Fin grid0.N, t.val < 44 → cfg0.idle 5 (grid0.coords t) = false)

/-- Afterwards it is left alone. -/
theorem idle5 : ∀ t : Fin cfg0.N, 44 ≤ t.val → cfg0.idle 5 (grid0.coords t) = true :=
  (by decide +kernel : ∀ t : Fin grid0.N, 44 ≤ t.val → cfg0.idle 5 (grid0.coords t) = true)

/-- When the second result is written back. -/
theorem flush5 : ∀ t : Fin cfg0.N, (cfg0.win 5).flush t = decide (t.val < 43 ∨ t.val = 175) :=
  (by decide +kernel : ∀ t : Fin grid0.N, (cfg0.win 5).flush t = decide (t.val < 43 ∨ t.val = 175))

/-- Nothing the body stored is in the second result's buffer before these positions. -/
def freshAt (n : ℕ) : Bool := decide (n < 44 ∨ n = 176)

theorem freshAt_step : ∀ t : Fin cfg0.N,
    freshAt (t.val + 1) = ((cfg0.win 5).flush t || (cfg0.idle 5 (cfg0.grid.coords t) && freshAt t.val)) :=
  (by decide +kernel : ∀ t : Fin grid0.N,
    freshAt (t.val + 1) = ((cfg0.win 5).flush t || (cfg0.idle 5 (cfg0.grid.coords t) && freshAt t.val)))

theorem fresh5 (t : Fin cfg0.N) : cfg0.fresh 5 t.val = freshAt t.val :=
  Pipeline.Cfg.fresh_tab cfg0 5 freshAt rfl freshAt_step t.val (Nat.le_of_lt t.isLt)

/-! ## The body on any buffers, case by case -/

/-- A load of a whole buffer reads what the buffer holds. -/
theorem read_all {s : Shape} {e : EltTy} {a : Memref sig .tc .vmem s e} (h : a.IsWhole) (X : s.Idx → Elt F e) {off : Fin s.rank → ℕ}
    (inb : ∀ k, off k + s.size k ≤ s.size k) (hz : off = fun _ => 0) :
    View.readAt (Elt F) a.view (Rect.unit off s.size inb).toLoadRect (h.unread X) = X :=
  funext fun x => (h.readAt_unread X _ x).trans (congrFun (View.ld_unit_zero hz inb X) x)

/-- The zero offset in two dimensions, -/
theorem zero2 : (![0, 0] : Fin 2 → ℕ) = fun _ => 0 := by decide

/-- and in three. -/
theorem zero3 : (![0, 0, 0] : Fin 3 → ℕ) = fun _ => 0 := by decide

section Runs

variable (c : Dev nD) (i : grid0.Coords)
  {a0 : Memref sig .tc .vmem S2080x4096 .bf16} (h0 : a0.IsWhole) {a1 : Memref sig .tc .vmem S1x4096x256 .f32} (h1 : a1.IsWhole)
  {a2 : Memref sig .tc .vmem S1x4096x256 .f32} (h2 : a2.IsWhole) {a3 : Memref sig .tc .vmem S1x256x4096 .f32} (h3 : a3.IsWhole)
  {a4 : Memref sig .tc .vmem S2080x256 .bf16} (h4 : a4.IsWhole) {a5 : Memref sig .tc .vmem S256x4096 .bf16} (h5 : a5.IsWhole)
  (x0 : Vec F S2080x4096 .bf16) (x1 x2 : Vec F S1x4096x256 .f32) (x3 : Vec F S1x256x4096 .f32)

/-- Real columns in the first row block: both results are stored. -/
theorem run_both (c1 : k0_cond1 i = 1#1) (c2 : ¬ k0_cond2 i = 1#1) (c3 : k0_cond3 i = 1#1) (c4 : ¬ k0_cond4 i = 1#1)
    (E : Set ℕ) (K : PUnit → sProp (Res F)) :
    iprop(owns (c : Thread nD τ) a0 fullShare x0
        ∗ owns (c : Thread nD τ) a1 fullShare x1
        ∗ owns (c : Thread nD τ) a2 fullShare x2
        ∗ owns (c : Thread nD τ) a3 fullShare x3
        ∗ (∃ d, owns (c : Thread nD τ) a4 fullShare d)
        ∗ (∃ d, owns (c : Thread nD τ) a5 fullShare d)
        ∗ (iprop(owns (c : Thread nD τ) a0 fullShare x0
            ∗ owns (c : Thread nD τ) a1 fullShare x1
            ∗ owns (c : Thread nD τ) a2 fullShare x2
            ∗ owns (c : Thread nD τ) a3 fullShare x3
            ∗ owns (c : Thread nD τ) a4 fullShare (k0_pay1 x0 x1 x2)
            ∗ owns (c : Thread nD τ) a5 fullShare (k0_pay3 x3)) -∗ K ⟨⟩))
      ⊢ wp frame (wpE (defs₀ (F := F)) Variants.none c none) E (cc0_gate_up i a0 h0 a1 h1 a2 h2 a3 h3 a4 h4 a5 h5) K := by
  simp only [cc0_gate_up_eq_skeleton]; unfold cc0_gate_up_skel
  unfold owns
  iintro ⟨⟨%f0, %e0, H0⟩, ⟨%f1, %e1, H1⟩, ⟨%f2, %e2, H2⟩, ⟨%f3, %e3, H3⟩, ⟨%d4, %f4, -, H4⟩, ⟨%d5, %f5, -, H5⟩, Hk⟩
  obtain rfl := h0.eq_unread e0; obtain rfl := h1.eq_unread e1; obtain rfl := h2.eq_unread e2; obtain rfl := h3.eq_unread e3
  sl_exec (disch := first | sl_exact c1 | sl_exact c2 | sl_exact c3 | sl_exact c4)
  sl_step
  iapply Hk
  isplitl [H0]
  · iexists _; isplitr; · ipureintro; exact h0.read_unread _
    iexact H0
  isplitl [H1]
  · iexists _; isplitr; · ipureintro; exact h1.read_unread _
    iexact H1
  isplitl [H2]
  · iexists _; isplitr; · ipureintro; exact h2.read_unread _
    iexact H2
  isplitl [H3]
  · iexists _; isplitr; · ipureintro; exact h3.read_unread _
    iexact H3
  isplitl [H4]
  · iexists _; isplitr
    swap; · iexact H4
    ipureintro
    refine (View.read_writes_full _ _ _ _ _).trans ?_
    rw [read_all h0 x0 _ zero2, read_all h1 x1 _ zero3, read_all h2 x2 _ zero3]
  iexists _; isplitr
  swap; · iexact H5
  ipureintro
  refine (View.read_writes_full _ _ _ _ _).trans ?_
  rw [read_all h3 x3 _ zero3]

/-- The padding columns in the first row block: both results are zeros. -/
theorem run_bothpad (c1 : ¬ k0_cond1 i = 1#1) (c2 : k0_cond2 i = 1#1) (c3 : ¬ k0_cond3 i = 1#1) (c4 : k0_cond4 i = 1#1)
    (E : Set ℕ) (K : PUnit → sProp (Res F)) :
    iprop((∃ d, owns (c : Thread nD τ) a4 fullShare d)
        ∗ (∃ d, owns (c : Thread nD τ) a5 fullShare d)
        ∗ (iprop(owns (c : Thread nD τ) a4 fullShare (k0_pay2 (F := F))
            ∗ owns (c : Thread nD τ) a5 fullShare (k0_pay4 (F := F))) -∗ K ⟨⟩))
      ⊢ wp frame (wpE (defs₀ (F := F)) Variants.none c none) E (cc0_gate_up i a0 h0 a1 h1 a2 h2 a3 h3 a4 h4 a5 h5) K := by
  simp only [cc0_gate_up_eq_skeleton]; unfold cc0_gate_up_skel
  unfold owns
  iintro ⟨⟨%d4, %f4, -, H4⟩, ⟨%d5, %f5, -, H5⟩, Hk⟩
  sl_exec (disch := first | sl_exact c1 | sl_exact c2 | sl_exact c3 | sl_exact c4)
  sl_step
  iapply Hk
  isplitl [H4]
  · iexists _; isplitr
    swap; · iexact H4
    ipureintro
    exact View.read_writes_full _ _ _ _ _
  iexists _; isplitr
  swap; · iexact H5
  ipureintro
  exact View.read_writes_full _ _ _ _ _

/-- Real columns in a later row block: only the first result is stored. -/
theorem run_gate (c1 : k0_cond1 i = 1#1) (c2 : ¬ k0_cond2 i = 1#1) (c3 : ¬ k0_cond3 i = 1#1) (c4 : ¬ k0_cond4 i = 1#1)
    (E : Set ℕ) (K : PUnit → sProp (Res F)) :
    iprop(owns (c : Thread nD τ) a0 fullShare x0
        ∗ owns (c : Thread nD τ) a1 fullShare x1
        ∗ owns (c : Thread nD τ) a2 fullShare x2
        ∗ (∃ d, owns (c : Thread nD τ) a4 fullShare d)
        ∗ (iprop(owns (c : Thread nD τ) a0 fullShare x0
            ∗ owns (c : Thread nD τ) a1 fullShare x1
            ∗ owns (c : Thread nD τ) a2 fullShare x2
            ∗ owns (c : Thread nD τ) a4 fullShare (k0_pay1 x0 x1 x2)) -∗ K ⟨⟩))
      ⊢ wp frame (wpE (defs₀ (F := F)) Variants.none c none) E (cc0_gate_up i a0 h0 a1 h1 a2 h2 a3 h3 a4 h4 a5 h5) K := by
  simp only [cc0_gate_up_eq_skeleton]; unfold cc0_gate_up_skel
  unfold owns
  iintro ⟨⟨%f0, %e0, H0⟩, ⟨%f1, %e1, H1⟩, ⟨%f2, %e2, H2⟩, ⟨%d4, %f4, -, H4⟩, Hk⟩
  obtain rfl := h0.eq_unread e0; obtain rfl := h1.eq_unread e1; obtain rfl := h2.eq_unread e2
  sl_exec (disch := first | sl_exact c1 | sl_exact c2 | sl_exact c3 | sl_exact c4)
  sl_step
  iapply Hk
  isplitl [H0]
  · iexists _; isplitr; · ipureintro; exact h0.read_unread _
    iexact H0
  isplitl [H1]
  · iexists _; isplitr; · ipureintro; exact h1.read_unread _
    iexact H1
  isplitl [H2]
  · iexists _; isplitr; · ipureintro; exact h2.read_unread _
    iexact H2
  iexists _; isplitr
  swap; · iexact H4
  ipureintro
  refine (View.read_writes_full _ _ _ _ _).trans ?_
  rw [read_all h0 x0 _ zero2, read_all h1 x1 _ zero3, read_all h2 x2 _ zero3]

/-- The padding columns in a later row block: only the first result is stored. -/
theorem run_pad (c1 : ¬ k0_cond1 i = 1#1) (c2 : k0_cond2 i = 1#1) (c3 : ¬ k0_cond3 i = 1#1) (c4 : ¬ k0_cond4 i = 1#1)
    (E : Set ℕ) (K : PUnit → sProp (Res F)) :
    iprop((∃ d, owns (c : Thread nD τ) a4 fullShare d)
        ∗ (iprop(owns (c : Thread nD τ) a4 fullShare (k0_pay2 (F := F))) -∗ K ⟨⟩))
      ⊢ wp frame (wpE (defs₀ (F := F)) Variants.none c none) E (cc0_gate_up i a0 h0 a1 h1 a2 h2 a3 h3 a4 h4 a5 h5) K := by
  simp only [cc0_gate_up_eq_skeleton]; unfold cc0_gate_up_skel
  unfold owns
  iintro ⟨⟨%d4, %f4, -, H4⟩, Hk⟩
  sl_exec (disch := first | sl_exact c1 | sl_exact c2 | sl_exact c3 | sl_exact c4)
  sl_step
  iapply Hk
  iexists _; isplitr
  swap; · iexact H4
  ipureintro
  exact View.read_writes_full _ _ _ _ _

end Runs

variable (m : (ℓ : Loc nD τ sig) → Buf (Elt F) ℓ) (ρ : Dev nD → PrngReg)

/-! ## What the results' buffers hold after each point -/

/-- The first result's block. -/
def gateAt (c : Dev nD) (t : Fin cfg0.N) : Vec F S2080x256 .bf16 :=
  if t.val % 44 < 43 then k0_pay1 (iblk m c 0 t) (iblk m c 1 t) (iblk m c 2 t) else k0_pay2 (F := F)

/-- The second result's block. -/
def downAt (c : Dev nD) (t : Fin cfg0.N) : Vec F S256x4096 .bf16 :=
  if t.val < 43 then k0_pay3 (iblk m c 3 t) else k0_pay4 (F := F)

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => gateAt m c t
    | ⟨5, _⟩ => downAt m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = gateAt m c t := by dsimp only [dats]
theorem after5 (c : Dev nD) (t : Fin cfg0.N) : (dats m 0 c).after 5 t = downAt m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

/-- Once the first row block is over, the second result's block stays zeros. -/
theorem down_pad (c : Dev nD) (t : Fin cfg0.N) (h : 43 ≤ t.val) : (dats m 0 c).after 5 t = k0_pay4 (F := F) := by
  rw [after5]; unfold downAt; exact if_neg (by omega)

/-- The second result's block carries through the points that leave it alone. -/
theorem carry5 (c : Dev nD) (t : Fin cfg0.N) (_ : t.val ≠ 0) (hi : cfg0.idle 5 (grid0.coords t) = true) (_ : cfg0.fresh 5 t.val = false) :
    (dats m 0 c).after 5 t = (dats m 0 c).after 5 ⟨t.val - 1, by omega⟩ := by
  have h : 44 ≤ t.val := by
    by_contra hlt
    rw [live5 t (by omega)] at hi
    exact Bool.false_ne_true hi
  rw [down_pad m c t (by omega), down_pad m c ⟨t.val - 1, by omega⟩ (by show 43 ≤ t.val - 1; omega)]

/-- So a later point finds zeros in its buffer. -/
theorem before5 (c : Dev nD) (t : Fin cfg0.N) (h : 44 ≤ t.val) (d) : (dats m 0 c).before 5 t d = k0_pay4 (F := F) := by
  have hN : t.val < 176 := lt_of_lt_of_eq t.isLt (show cfg0.N = 176 from N_0)
  rw [Dat.before_out_traj _ 5 rfl (fun _ _ => rfl) (carry5 m c) t.val t rfl d,
    if_neg (by rw [fresh5 t]; unfold freshAt; simp only [decide_eq_true_eq]; omega)]
  exact down_pad m c ⟨t.val - 1, by omega⟩ (by show 43 ≤ t.val - 1; omega)

/-! ## The body obligation -/

/-- What the body is called with at point `t`, -/
def bodyPre (c : Dev nD) (t : Fin cfg0.N) : sProp (Res F) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp (Res F) :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

theorem leaves0 (c : Dev nD) (t : Fin cfg0.N) : (dats m 0 c).leavesExact 0 t = owns (c : Thread nD τ) (st0_0 t) fullShare (iblk m c 0 t) := by
  unfold Dat.leavesExact; rw [show cfg0.idle 0 (cfg0.grid.coords t) = false from rfl, after0]
theorem leaves1 (c : Dev nD) (t : Fin cfg0.N) : (dats m 0 c).leavesExact 1 t = owns (c : Thread nD τ) (st0_1 t) fullShare (iblk m c 1 t) := by
  unfold Dat.leavesExact; rw [show cfg0.idle 1 (cfg0.grid.coords t) = false from rfl, after1]
theorem leaves2 (c : Dev nD) (t : Fin cfg0.N) : (dats m 0 c).leavesExact 2 t = owns (c : Thread nD τ) (st0_2 t) fullShare (iblk m c 2 t) := by
  unfold Dat.leavesExact; rw [show cfg0.idle 2 (cfg0.grid.coords t) = false from rfl, after2]
theorem leaves3 (c : Dev nD) (t : Fin cfg0.N) : (dats m 0 c).leavesExact 3 t = owns (c : Thread nD τ) (st0_3 t) fullShare (iblk m c 3 t) := by
  unfold Dat.leavesExact; rw [show cfg0.idle 3 (cfg0.grid.coords t) = false from rfl, after3]
theorem leaves4 (c : Dev nD) (t : Fin cfg0.N) : (dats m 0 c).leavesExact 4 t = owns (c : Thread nD τ) (st0_4 t) fullShare (gateAt m c t) := by
  unfold Dat.leavesExact; rw [show cfg0.idle 4 (cfg0.grid.coords t) = false from live4 t, after4]
theorem leaves5 (c : Dev nD) (t : Fin cfg0.N) (h : t.val < 44) :
    (dats m 0 c).leavesExact 5 t = owns (c : Thread nD τ) (st0_5 t) fullShare (downAt m c t) := by
  unfold Dat.leavesExact; rw [show cfg0.idle 5 (cfg0.grid.coords t) = false from live5 t h, after5]

/-- At a later point the second result's buffer is returned as it was found, whether or not the block is written back. -/
theorem kept5 (c : Dev nD) (t : Fin cfg0.N) (h : 44 ≤ t.val) :
    owns (c : Thread nD τ) (st0_5 t) fullShare (k0_pay4 (F := F)) ⊢ (dats m 0 c).leavesExact 5 t := by
  by_cases ht : t.val = 175
  · unfold Dat.leavesExact
    rw [show cfg0.idle 5 (cfg0.grid.coords t) = true from idle5 t h,
      show (cfg0.win 5).flush t = true from (flush5 t).trans (decide_eq_true (by omega)), down_pad m c t (by omega)]
  · rw [(dats m 0 c).leavesExact_idle 5 t (idle5 t h) ((flush5 t).trans (decide_eq_false (by omega)))]
    iintro H
    iexists k0_pay4 (F := F)
    rw [before5 m c t h]
    iexact H

set_option maxHeartbeats 800000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = (dats m 0 c).Φ t.castSucc from rfl,
    show (dats m 0 c).owesAt () t.succ = (dats m 0 c).owesAt () t.castSucc from rfl,
    leaves0, leaves1, leaves2, leaves3, leaves4]
  unfold gateAt
  by_cases hs : t.val < 44
  · rw [leaves5 m c t hs]
    unfold downAt
    by_cases hg : t.val < 43
    · rw [if_pos (show t.val % 44 < 43 by omega), if_pos hg]
      iintro ⟨HΦ, Ho, ⟨%d0, H0⟩, ⟨%d1, H1⟩, ⟨%d2, H2⟩, ⟨%d3, H3⟩, ⟨%d4, H4⟩, ⟨%d5, H5⟩⟩
      iapply (run_both c (grid0.coords t) _ _ _ _ _ _ (iblk m c 0 t) (iblk m c 1 t) (iblk m c 2 t) (iblk m c 3 t)
        ((gate_iff t).mpr (by omega)) (fun h => (pad_iff t).mp h (by omega)) ((down_iff t).mpr hg) (fun h => absurd ((downpad_iff t).mp h) (by omega)) Set.univ _)
      isplitl [H0]; · iexact H0
      isplitl [H1]; · iexact H1
      isplitl [H2]; · iexact H2
      isplitl [H3]; · iexact H3
      isplitl [H4]; · iexists _; iexact H4
      isplitl [H5]; · iexists _; iexact H5
      iintro ⟨H0, H1, H2, H3, H4, H5⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      iexact H5
    · rw [if_neg (show ¬ t.val % 44 < 43 by omega), if_neg hg]
      iintro ⟨HΦ, Ho, ⟨%d0, H0⟩, ⟨%d1, H1⟩, ⟨%d2, H2⟩, ⟨%d3, H3⟩, ⟨%d4, H4⟩, ⟨%d5, H5⟩⟩
      iapply (run_bothpad c (grid0.coords t) _ _ _ _ _ _
        (fun h => absurd ((gate_iff t).mp h) (by omega)) ((pad_iff t).mpr (by omega)) (fun h => hg ((down_iff t).mp h)) ((downpad_iff t).mpr (by omega)) Set.univ _)
      isplitl [H4]; · iexists _; iexact H4
      isplitl [H5]; · iexists _; iexact H5
      iintro ⟨H4, H5⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      iexact H5
  · simp only [before5 m c t (by omega)]
    by_cases hg : t.val % 44 < 43
    · rw [if_pos hg]
      iintro ⟨HΦ, Ho, ⟨%d0, H0⟩, ⟨%d1, H1⟩, ⟨%d2, H2⟩, ⟨%d3, H3⟩, ⟨%d4, H4⟩, ⟨%d5, H5⟩⟩
      iapply (run_gate c (grid0.coords t) _ _ _ _ _ _ (iblk m c 0 t) (iblk m c 1 t) (iblk m c 2 t)
        ((gate_iff t).mpr hg) (fun h => (pad_iff t).mp h hg) (fun h => absurd ((down_iff t).mp h) (by omega)) (fun h => absurd ((downpad_iff t).mp h) (by omega)) Set.univ _)
      isplitl [H0]; · iexact H0
      isplitl [H1]; · iexact H1
      isplitl [H2]; · iexact H2
      isplitl [H4]; · iexists _; iexact H4
      iintro ⟨H0, H1, H2, H4⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      iapply (kept5 m c t (by omega)); iexact H5
    · rw [if_neg hg]
      iintro ⟨HΦ, Ho, ⟨%d0, H0⟩, ⟨%d1, H1⟩, ⟨%d2, H2⟩, ⟨%d3, H3⟩, ⟨%d4, H4⟩, ⟨%d5, H5⟩⟩
      iapply (run_pad c (grid0.coords t) _ _ _ _ _ _
        (fun h => hg ((gate_iff t).mp h)) ((pad_iff t).mpr hg) (fun h => absurd ((down_iff t).mp h) (by omega)) (fun h => absurd ((downpad_iff t).mp h) (by omega)) Set.univ _)
      isplitl [H4]; · iexists _; iexact H4
      iintro H4
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      iapply (kept5 m c t (by omega)); iexact H5

theorem body_row (t : Fin cfg0.N) :
    defs₀ (F := F) .tc cfg0.body (cfg0.bodyArgs t (cfg0.slots t)) = bodyAt0 t := by
  unfold defs₀; rw [Defs.onTc_tc]

/-- The body obligation at every point. -/
theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

/-! ## The run and the frame -/

set_option backward.isDefEq.respectTransparency.types false in
/-- The run ends, every array at what the proof data says and every semaphore at zero. -/
theorem run_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The run ends with every array at what the proof data says. -/
theorem run_arrays : θ_run defs (onTc (τ := τ) (main (F := F))) (s₀ m ρ) (Pipeline.FramePost cfgs (dats m) 0 (V m)) :=
  (θ_run defs _ _).mono (fun _ h => h.1) (run_quiescent m ρ)

/-- The frame: the arguments end as they were and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_arrays m ρ)) ((θ_run defs _ _).mono (fun _ h => h.2) (run_quiescent m ρ))

end Cert.GateUpIdeal.Hand

end
-- ==== Proof.GateBits.lean ====
/- The gate and up call as printed and its idealization are the same text, so the frame carries over. -/
module

public import proofs.«01_k».proof.Defs
public import proofs.«01_k».proof.Proof.Gen.GateUp
public import proofs.«01_k».proof.Proof.GateFrame

@[expose] public section

set_option maxRecDepth 16384

namespace Cert.GateUp.Hand

open Idealize.ShloMosaic Idealize.ShloMosaic.Tactic

/-- The two programs' bodies are the same. -/
theorem same_defs : Cert.GateUp.defs (F := Bits) = Cert.GateUpIdeal.defs (F := Bits) := by sl_kernel_rfl

/-- The frame of the call as printed. -/
theorem frame : Cert.quiescent_GateUp := fun m ρ _ => by
  rw [same_defs]
  exact Cert.GateUpIdeal.Hand.frame (F := Bits) m ρ

end Cert.GateUp.Hand

end
-- ==== Proof.GateClaim.lean ====
/- The gate and up call: what the kernel leaves is the gated activations with padding columns of zeros, and the down
weight with padding rows of zeros. -/
module

public import proofs.«01_k».proof.Defs
public import proofs.«01_k».proof.Proof.GateFrame
public import proofs.«01_k».proof.Proof.Gen.GateUpRefIdeal.Run
public import Idealize.ShloMosaic.Lib.Pointwise
public import Idealize.ShloMosaic.Lib.Pipeline.ValueKit

@[expose] public section

set_option maxRecDepth 16384

noncomputable section

namespace Cert.GateUpRefIdeal.Value

open Cert.GateUpRefIdeal Cert.GateUpRefIdeal.Gen Idealize.ShloMosaic Idealize.ShloMosaic.TcCoe

/-- The activations times the first of a pair of weights. -/
def times (a : FVec Ideal S8320x4096 .bf16) (w : FVec Ideal S2x4096x11008 .f32) : FVec Ideal S8320x11008 .f32 :=
  Host.dotGeneral dot_S8320x4096_S4096x11008_S8320x11008_1_0_0_1_n_n none (extf .f32 a bitsLt_bf16_f32)
    (shapeCast _ (extractStridedSlice S1x4096x11008 ![0, 0, 0] w slices_S2x4096x11008_S1x4096x11008_0_0_0) shapeCasts_S1x4096x11008_S4096x11008)

/-- The reference's first result from the two products. -/
def gated (g u : FVec Ideal S8320x11008 .f32) : FVec Ideal S8320x11264 .bf16 :=
  truncf .bf16 (pad S8320x11264 ![0, 0] ![0, 256] ![0, 0] (mulf (broadcastInDim S8320x11008 ![] bcast_S_S8320x11008 (constant S_ .f32 0x3F000000#32))
    (mulf (mulf g (Host.divf (broadcastInDim S8320x11008 ![] bcast_S_S8320x11008 (constant S_ .f32 0x3F800000#32))
      (addf (broadcastInDim S8320x11008 ![] bcast_S_S8320x11008 (constant S_ .f32 0x3F800000#32)) (Host.exp (Host.negf g))))) u))
    (sitofp .f32 (constantI S_ 32 0#32)) pads_S8320x11008_S8320x11264_000_02560 h_S_) bitsLt_bf16_f32

/-- The reference's second result. -/
def lowered (w : FVec Ideal S2x11008x4096 .f32) : FVec Ideal S11264x4096 .bf16 :=
  truncf .bf16 (pad S11264x4096 ![0, 0] ![256, 0] ![0, 0] (shapeCast _ (extractStridedSlice S1x11008x4096 ![0, 0, 0] w slices_S2x11008x4096_S1x11008x4096_0_0_0) shapeCasts_S1x11008x4096_S11008x4096)
    (sitofp .f32 (constantI S_ 32 0#32)) pads_S11008x4096_S11264x4096_02560_000 h_S_) bitsLt_bf16_f32

/-- A product read at an index. -/
theorem times_apply (a : FVec Ideal S8320x4096 .bf16) (w : FVec Ideal S2x4096x11008 .f32) (j : S8320x11008.Idx) :
    times a w j = ∑ k : Fin 4096, a (ix2 (j 0) k) * w (ix3 0 k (j 1)) := by
  unfold times
  pointwise

/-- One gated entry. -/
def gate (g u : EReal) : EReal := Scalar.ofBits (F := Ideal) .f32 0x3F000000#32 * g * Ideal.logistic g * u

/-- The padding value is zero. -/
theorem no_word : (FloatOps.sitofp (F := Ideal) .f32 0#32 : EReal) = 0 := by
  show (((0#32 : BitVec 32).toInt : ℝ) : EReal) = 0
  simp

/-- The reference's first result read at an index. -/
theorem gated_apply (g u : FVec Ideal S8320x11008 .f32) (j : S8320x11264.Idx) :
    gated g u j = if h : (j 1).val < 11008 then gate (g (ix2 (j 0) ⟨(j 1).val, h⟩)) (u (ix2 (j 0) ⟨(j 1).val, h⟩)) else 0 := by
  unfold gated gate Ideal.logistic
  pointwise
  split
  · simp only [mul_assoc]
  · exact no_word

/-- The reference's second result read at an index. -/
theorem lowered_apply (w : FVec Ideal S2x11008x4096 .f32) (j : S11264x4096.Idx) :
    lowered w j = if h : (j 0).val < 11008 then w (ix3 0 ⟨(j 0).val, h⟩ (j 1)) else 0 := by
  unfold lowered
  pointwise
  split
  · rfl
  · exact no_word

end Cert.GateUpRefIdeal.Value

namespace Cert.GateUpIdeal.Value

open Cert.GateUpIdeal Cert.GateUpIdeal.Gen Cert.GateUpIdeal.Hand Idealize.ShloMosaic Idealize.ShloMosaic.TcCoe Idealize.SL.Sem

variable (m : (ℓ : Loc nD τ sig) → Buf (Elt Ideal) ℓ)

/-- A block of activations times a block of weights. -/
def part (a : FVec Ideal S2080x4096 .bf16) (w : FVec Ideal S1x4096x256 .f32) (j : S2080x256.Idx) : EReal :=
  ∑ k : Fin 4096, a (ix2 (j 0) k) * w (ix3 0 k (j 1))

/-- The first result's block where there are real columns, -/
theorem gate_apply (a : FVec Ideal S2080x4096 .bf16) (w v : FVec Ideal S1x4096x256 .f32) (j : S2080x256.Idx) :
    (k0_pay1 (F := Ideal) a w v j : EReal) = Cert.GateUpRefIdeal.Value.gate (part a w j) (part a v j) := by
  unfold Cert.GateUpRefIdeal.Value.gate part
  pointwise [k0_pay1]

/-- and elsewhere. -/
theorem pad_apply (j : S2080x256.Idx) : (k0_pay2 (F := Ideal) j : EReal) = 0 := by
  pointwise [k0_pay2]

/-- The second result's block where there are real rows, -/
theorem down_apply (w : FVec Ideal S1x256x4096 .f32) (j : S256x4096.Idx) : (k0_pay3 (F := Ideal) w j : EReal) = w (ix3 0 (j 0) (j 1)) := by
  pointwise [k0_pay3]

/-- and elsewhere. -/
theorem downpad_apply (j : S256x4096.Idx) : (k0_pay4 (F := Ideal) j : EReal) = 0 := by
  pointwise [k0_pay4]

/-- The windows' block indices at a grid point. -/
theorem idx : ∀ t : Fin cfg0.N, win0_0.index t = ![t.val / 44, 0] ∧ win0_1.index t = ![0, 0, min (t.val % 44) 42]
    ∧ win0_2.index t = ![0, 0, min (t.val % 44) 42] ∧ win0_3.index t = ![0, min t.val 42, 0]
    ∧ win0_4.index t = ![t.val / 44, t.val % 44] ∧ win0_5.index t = ![min t.val 43, 0] :=
  (by decide +kernel : ∀ t : Fin grid0.N, _)

/-- The first array the kernel leaves. -/
theorem final_gate (c : Dev nD) : (dats m 0 c).arrAt 4 cfg0.N
    = Cert.GateUpRefIdeal.Value.gated (Cert.GateUpRefIdeal.Value.times (m ((c : Thread nD τ).loc main_arg0)) (m ((c : Thread nD τ).loc main_arg1)))
        (Cert.GateUpRefIdeal.Value.times (m ((c : Thread nD τ).loc main_arg0)) (m ((c : Thread nD τ).loc main_arg2))) := by
  refine (dats m 0 c).arrAt_eq_of_covers 4 _ (by decide +kernel) fun t hf y => ?_
  blk_simp
  rw [after4, Cert.GateUpRefIdeal.Value.gated_apply]
  unfold gateAt
  have hc : ((win0_4.blk t).view.emb y 1).val = t.val % 44 * 256 + (y 1).val := by
    blk_simp [idx t]
  have hy : (y 1).val < 256 := (y 1).isLt
  by_cases hg : t.val % 44 < 43
  · rw [if_pos hg, dif_pos (by omega), gate_apply]
    refine congrArg₂ Cert.GateUpRefIdeal.Value.gate ?_ ?_
    · rw [Cert.GateUpRefIdeal.Value.times_apply]
      unfold part
      refine Finset.sum_congr rfl fun k _ => congrArg₂ (fun p q : EReal => p * q) ?_ ?_
      · blk_ext [iblk, V, idx t]
      · blk_ext [iblk, V, idx t]
    · rw [Cert.GateUpRefIdeal.Value.times_apply]
      unfold part
      refine Finset.sum_congr rfl fun k _ => congrArg₂ (fun p q : EReal => p * q) ?_ ?_
      · blk_ext [iblk, V, idx t]
      · blk_ext [iblk, V, idx t]
  · rw [if_neg hg, dif_neg (by omega), pad_apply]

/-- The second array the kernel leaves. -/
theorem final_down (c : Dev nD) : (dats m 0 c).arrAt 5 cfg0.N
    = Cert.GateUpRefIdeal.Value.lowered (m ((c : Thread nD τ).loc main_arg3)) := by
  refine (dats m 0 c).arrAt_eq_of_covers 5 _ (by decide +kernel) fun t hf y => ?_
  blk_simp
  rw [after5, Cert.GateUpRefIdeal.Value.lowered_apply]
  unfold downAt
  have hc : ((win0_5.blk t).view.emb y 0).val = min t.val 43 * 256 + (y 0).val := by
    blk_simp [idx t]
  have hy : (y 0).val < 256 := (y 0).isLt
  by_cases hg : t.val < 43
  · rw [if_pos hg, dif_pos (by omega), down_apply]
    blk_ext [iblk, V, idx t]
  · rw [if_neg hg, dif_neg (by omega), downpad_apply]

/-- The run, each result array named. -/
theorem run_named (ρ : Dev nD → PrngReg) : θ_run defs (onTc (τ := τ) (main (F := Ideal))) ⟨m, fun _ => 0, ρ⟩ fun r => ∀ c : Dev nD,
      r.2.mem ((c : Thread nD τ).loc main_v0_0) = (dats m 0 c).arrAt 4 cfg0.N
      ∧ r.2.mem ((c : Thread nD τ).loc main_v0_1) = (dats m 0 c).arrAt 5 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1 4, (h c).1 5,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩)
    (run_arrays m ρ)

/-- Both run, the kernel's results are the reference's. -/
theorem claim : Cert.algebraic_GateUpIdeal_GateUpRefIdeal := by
  intro m ρ m' ρ' _ hagree
  refine ⟨fun c => Cert.GateUpRefIdeal.Value.gated (Cert.GateUpRefIdeal.Value.times (m ((c : Thread nD τ).loc main_arg0)) (m ((c : Thread nD τ).loc main_arg1)))
        (Cert.GateUpRefIdeal.Value.times (m ((c : Thread nD τ).loc main_arg0)) (m ((c : Thread nD τ).loc main_arg2))),
    fun c => Cert.GateUpRefIdeal.Value.lowered (m ((c : Thread nD τ).loc main_arg3)),
    (θ_run defs _ _).mono (fun _ h c => ⟨(h c).1.trans (final_gate m c), (h c).2.1.trans (final_down m c), (h c).2.2⟩) (run_named m ρ), ?_⟩
  refine (θ_run Cert.GateUpRefIdeal.defs _ _).mono (fun _ h c => ⟨(h c).1.trans ?_, (h c).2.1.trans ?_, (h c).2.2⟩) (Cert.GateUpRefIdeal.Value.run m' ρ')
  · rw [(hagree c).1, (hagree c).2.1, (hagree c).2.2.1]
    rfl
  · rw [(hagree c).2.2.2]
    rfl

end Cert.GateUpIdeal.Value

end
-- ==== Proof.RunSum.lean ====
/- An accumulated block that starts from another block instead of zero: the recursion over the grid points as a sum. -/
module

public import Idealize.ShloMosaic.Lib.Pipeline.ValueKit

@[expose] public section

noncomputable section

namespace Cert.RunSum

open Idealize.ShloMosaic

/-- A quantity that is `start + part` at the first point of a run of `J` and gains `part` at the others is, at the last
    point of the run, the run's `start` and the sum of its parts. -/
theorem start_sum {N J : ℕ} [NeZero J] {ι : Type} (f : (n : ℕ) → n < N → ι → EReal) (start part : Fin N → ι → EReal)
    (h0 : ∀ t : Fin N, t.val % J = 0 → ∀ i, f t.val t.isLt i = start t i + part t i)
    (hs : ∀ t : Fin N, ¬t.val % J = 0 → ∀ i, f t.val t.isLt i = f (t.val - 1) (Nat.lt_of_le_of_lt (Nat.sub_le _ _) t.isLt) i + part t i)
    (t : Fin N) (hr : t.val % J = J - 1) (i : ι) :
    f t.val t.isLt i = start ⟨J * (t.val / J) + (0 : Fin J).val, Pipeline.run_point_lt_of_flush t hr 0⟩ i
      + ∑ s : Fin J, part ⟨J * (t.val / J) + s.val, Pipeline.run_point_lt_of_flush t hr s⟩ i := by
  rw [Pipeline.eq_sum_fin_of_reset_step_apply_of_flush f J (fun _ => 0)
    (fun t i => (if t.val % J = 0 then start t i else 0) + part t i)
    (fun t h i => by rw [h0 t h i, if_pos h, zero_add]) (fun t h i => by rw [hs t h i, if_neg h, zero_add]) t hr i,
    zero_add, Finset.sum_add_distrib]
  congr 1
  rw [Finset.sum_eq_single (0 : Fin J)]
  · exact if_pos (by simp)
  · intro s _ hne
    refine if_neg fun e => hne (Fin.ext ?_)
    simp only [Nat.mul_add_mod, Nat.mod_eq_of_lt s.isLt] at e
    rw [e]; rfl
  · exact fun h => absurd (Finset.mem_univ _) h

end Cert.RunSum

end
-- ==== Proof.DownClaim.lean ====
/- The down projection with its residual: what the kernel leaves is the residual plus the whole product. -/
module

public import proofs.«01_k».proof.Defs
public import proofs.«01_k».proof.Proof.RunSum
public import proofs.«01_k».proof.Proof.Gen.DownIdeal.Value
public import proofs.«01_k».proof.Proof.Gen.DownRefIdeal.Run
public import Idealize.ShloMosaic.Lib.Pointwise

@[expose] public section

set_option maxRecDepth 16384

noncomputable section

namespace Cert.DownRefIdeal.Value

open Cert.DownRefIdeal Cert.DownRefIdeal.Gen Idealize.ShloMosaic Idealize.ShloMosaic.TcCoe

/-- The reference's result from its arguments. -/
def project (a : FVec Ideal S8320x11264 .bf16) (w : FVec Ideal S1x11264x4096 .bf16) (x : FVec Ideal S8320x4096 .f32) : FVec Ideal S8320x4096 .f32 :=
  addf x (Host.dotGeneral dot_S8320x11264_S11264x4096_S8320x4096_1_0_0_1_n_n none (extf .f32 a bitsLt_bf16_f32) (extf .f32 (shapeCast _ w shapeCasts_S1x11264x4096_S11264x4096) bitsLt_bf16_f32))

/-- The reference's result read at an index. -/
theorem project_apply (a : FVec Ideal S8320x11264 .bf16) (w : FVec Ideal S1x11264x4096 .bf16) (x : FVec Ideal S8320x4096 .f32) (j : S8320x4096.Idx) :
    project a w x j = x j + ∑ k : Fin 11264, a (ix2 (j 0) k) * w (ix3 0 k (j 1)) := by
  unfold project
  pointwise

end Cert.DownRefIdeal.Value

namespace Cert.DownIdeal.Value

open Cert.DownIdeal Cert.DownIdeal.Gen Idealize.ShloMosaic Idealize.ShloMosaic.TcCoe Idealize.SL.Sem

variable (m : (ℓ : Loc nD τ sig) → Buf (Elt Ideal) ℓ)

/-- One step's product of a block of activations with a block of weights. -/
def part (a : FVec Ideal S1040x2816 .bf16) (w : FVec Ideal S1x2816x1024 .bf16) (j : S1040x1024.Idx) : EReal :=
  ∑ k : Fin 2816, a (ix2 (j 0) k) * w (ix3 0 k (j 1))

/-- The first step's value. -/
theorem first_apply (r : FVec Ideal S1040x1024 .f32) (a : FVec Ideal S1040x2816 .bf16) (w : FVec Ideal S1x2816x1024 .bf16) (j : S1040x1024.Idx) :
    k0_pay1 r a w j = r j + part a w j := by
  unfold part
  pointwise [k0_pay1]

/-- A later step's value. -/
theorem later_apply (r : FVec Ideal S1040x1024 .f32) (a : FVec Ideal S1040x2816 .bf16) (w : FVec Ideal S1x2816x1024 .bf16) (j : S1040x1024.Idx) :
    k0_pay2 r a w j = r j + part a w j := by
  unfold part
  pointwise [k0_pay2]

/-- The windows' block indices at a grid point. -/
theorem idx : ∀ t : Fin cfg0.N, win0_0.index t = ![t.val / (4 * 4), t.val % 4] ∧ win0_1.index t = ![0, t.val % 4, t.val / 4 % 4]
    ∧ win0_2.index t = ![t.val / (4 * 4), t.val / 4 % 4] ∧ win0_3.index t = ![t.val / (4 * 4), t.val / 4 % 4] :=
  (by decide +kernel : ∀ t : Fin grid0.N, _)

/-- The array the kernel leaves. -/
theorem final (c : Dev nD) : (dats m 0 c).arrAt 3 cfg0.N
    = Cert.DownRefIdeal.Value.project (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3, RunSum.start_sum (fun n h => outsAt0 m c n h) (J := 4) (fun t => iblk m c 2 t) (fun t => part (iblk m c 0 t) (iblk m c 1 t))
    (fun t h j => by rw [outsAt0_A m c t h (by omega)]; frame_out; rw [first_apply])
    (fun t h j => by rw [outsAt0_B m c t h (by omega)]; frame_out; rw [later_apply])
    t ((flush0_3 t).mp hf) _, Cert.DownRefIdeal.Value.project_apply]
  have hm := (flush0_3 t).mp hf
  refine congrArg₂ (fun p q : EReal => p + q) ?_ ?_
  · blk_ext [iblk, V, idx t, idx ⟨_, Pipeline.run_point_lt_of_flush t hm 0⟩]
  · unfold part
    refine Fin.sum_mul_add_congr fun s k hl => ?_
    refine congrArg₂ (fun p q : EReal => p * q) ?_ ?_
    · blk_ext [iblk, V, idx t, idx ⟨_, Pipeline.run_point_lt_of_flush t hm s⟩]
    · blk_ext [iblk, V, idx t, idx ⟨_, Pipeline.run_point_lt_of_flush t hm s⟩]

/-- Both run, the kernel's result is the reference's. -/
theorem claim : Cert.algebraic_DownIdeal_DownRefIdeal := by
  intro m ρ m' ρ' _ hagree
  refine ⟨fun c => Cert.DownRefIdeal.Value.project (m ((c : Thread nD τ).loc main_arg0)) (m ((c : Thread nD τ).loc main_arg1)) (m ((c : Thread nD τ).loc main_arg2)),
    (θ_run defs _ _).mono (fun _ h c => ⟨(h c).1.trans (final m c), (h c).2⟩) (run_blocks m ρ), ?_⟩
  refine (θ_run Cert.DownRefIdeal.defs _ _).mono (fun _ h c => ⟨(h c).1.trans ?_, (h c).2⟩) (Cert.DownRefIdeal.Value.run m' ρ')
  rw [(hagree c).1, (hagree c).2.1, (hagree c).2.2]
  rfl

end Cert.DownIdeal.Value

end
-- ==== Proof.OutClaim.lean ====
/- The output projection with its residual: what the kernel leaves is the residual plus the whole product. -/
module

public import proofs.«01_k».proof.Defs
public import proofs.«01_k».proof.Proof.RunSum
public import proofs.«01_k».proof.Proof.Gen.OutIdeal.Value
public import proofs.«01_k».proof.Proof.Gen.OutRefIdeal.Run
public import Idealize.ShloMosaic.Lib.Pointwise

@[expose] public section

set_option maxRecDepth 16384

noncomputable section

namespace Cert.OutRefIdeal.Value

open Cert.OutRefIdeal Cert.OutRefIdeal.Gen Idealize.ShloMosaic Idealize.ShloMosaic.TcCoe

/-- The reference's result from its arguments. -/
def project (a : FVec Ideal S8320x4096 .bf16) (w : FVec Ideal S1x4096x4096 .bf16) (x : FVec Ideal S8320x4096 .f32) : FVec Ideal S8320x4096 .f32 :=
  addf x (Host.dotGeneral dot_S8320x4096_S4096x4096_S8320x4096_1_0_0_1_n_n none (extf .f32 a bitsLt_bf16_f32) (extf .f32 (shapeCast _ w shapeCasts_S1x4096x4096_S4096x4096) bitsLt_bf16_f32))

/-- The reference's result read at an index. -/
theorem project_apply (a : FVec Ideal S8320x4096 .bf16) (w : FVec Ideal S1x4096x4096 .bf16) (x : FVec Ideal S8320x4096 .f32) (j : S8320x4096.Idx) :
    project a w x j = x j + ∑ k : Fin 4096, a (ix2 (j 0) k) * w (ix3 0 k (j 1)) := by
  unfold project
  pointwise

end Cert.OutRefIdeal.Value

namespace Cert.OutIdeal.Value

open Cert.OutIdeal Cert.OutIdeal.Gen Idealize.ShloMosaic Idealize.ShloMosaic.TcCoe Idealize.SL.Sem

variable (m : (ℓ : Loc nD τ sig) → Buf (Elt Ideal) ℓ)

/-- One step's product of a block of activations with a block of weights. -/
def part (a : FVec Ideal S1040x2048 .bf16) (w : FVec Ideal S1x2048x1024 .bf16) (j : S1040x1024.Idx) : EReal :=
  ∑ k : Fin 2048, a (ix2 (j 0) k) * w (ix3 0 k (j 1))

/-- The first step's value. -/
theorem first_apply (r : FVec Ideal S1040x1024 .f32) (a : FVec Ideal S1040x2048 .bf16) (w : FVec Ideal S1x2048x1024 .bf16) (j : S1040x1024.Idx) :
    k0_pay1 r a w j = r j + part a w j := by
  unfold part
  pointwise [k0_pay1]

/-- A later step's value. -/
theorem later_apply (r : FVec Ideal S1040x1024 .f32) (a : FVec Ideal S1040x2048 .bf16) (w : FVec Ideal S1x2048x1024 .bf16) (j : S1040x1024.Idx) :
    k0_pay2 r a w j = r j + part a w j := by
  unfold part
  pointwise [k0_pay2]

/-- The windows' block indices at a grid point. -/
theorem idx : ∀ t : Fin cfg0.N, win0_0.index t = ![t.val / (2 * 4), t.val % 2] ∧ win0_1.index t = ![0, t.val % 2, t.val / 2 % 4]
    ∧ win0_2.index t = ![t.val / (2 * 4), t.val / 2 % 4] ∧ win0_3.index t = ![t.val / (2 * 4), t.val / 2 % 4] :=
  (by decide +kernel : ∀ t : Fin grid0.N, _)

/-- The array the kernel leaves. -/
theorem final (c : Dev nD) : (dats m 0 c).arrAt 3 cfg0.N
    = Cert.OutRefIdeal.Value.project (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3, RunSum.start_sum (fun n h => outsAt0 m c n h) (J := 2) (fun t => iblk m c 2 t) (fun t => part (iblk m c 0 t) (iblk m c 1 t))
    (fun t h j => by rw [outsAt0_A m c t h (by omega)]; frame_out; rw [first_apply])
    (fun t h j => by rw [outsAt0_B m c t h (by omega)]; frame_out; rw [later_apply])
    t ((flush0_3 t).mp hf) _, Cert.OutRefIdeal.Value.project_apply]
  have hm := (flush0_3 t).mp hf
  refine congrArg₂ (fun p q : EReal => p + q) ?_ ?_
  · blk_ext [iblk, V, idx t, idx ⟨_, Pipeline.run_point_lt_of_flush t hm 0⟩]
  · unfold part
    refine Fin.sum_mul_add_congr fun s k hl => ?_
    refine congrArg₂ (fun p q : EReal => p * q) ?_ ?_
    · blk_ext [iblk, V, idx t, idx ⟨_, Pipeline.run_point_lt_of_flush t hm s⟩]
    · blk_ext [iblk, V, idx t, idx ⟨_, Pipeline.run_point_lt_of_flush t hm s⟩]

/-- Both run, the kernel's result is the reference's. -/
theorem claim : Cert.algebraic_OutIdeal_OutRefIdeal := by
  intro m ρ m' ρ' _ hagree
  refine ⟨fun c => Cert.OutRefIdeal.Value.project (m ((c : Thread nD τ).loc main_arg0)) (m ((c : Thread nD τ).loc main_arg1)) (m ((c : Thread nD τ).loc main_arg2)),
    (θ_run defs _ _).mono (fun _ h c => ⟨(h c).1.trans (final m c), (h c).2⟩) (run_blocks m ρ), ?_⟩
  refine (θ_run Cert.OutRefIdeal.defs _ _).mono (fun _ h c => ⟨(h c).1.trans ?_, (h c).2⟩) (Cert.OutRefIdeal.Value.run m' ρ')
  rw [(hagree c).1, (hagree c).2.1, (hagree c).2.2]
  rfl

end Cert.OutIdeal.Value

end
-- ==== Proof.QkvRef.lean ====
/- The reference of the query, key and value projection with the rotary embedding, read at an index. -/
module

public import proofs.«01_k».proof.Proof.Gen.QkvRefIdeal.Run
public import Idealize.ShloMosaic.Lib.Pointwise

@[expose] public section

set_option maxRecDepth 16384

noncomputable section

namespace Cert.QkvRefIdeal.Value

open Cert.QkvRefIdeal Cert.QkvRefIdeal.Gen Idealize.ShloMosaic Idealize.ShloMosaic.TcCoe

/-- The projection of all rows to all columns. -/
def product (a : FVec Ideal S8320x4096 .bf16) (w : FVec Ideal S1x4096x6144 .bf16) : FVec Ideal S8320x6144 .f32 :=
  Host.dotGeneral dot_S8320x4096_S4096x6144_S8320x6144_1_0_0_1_n_n none (extf .f32 a bitsLt_bf16_f32)
    (extf .f32 (shapeCast _ w shapeCasts_S1x4096x6144_S4096x6144) bitsLt_bf16_f32)

/-- The angles: each row's position times each frequency. -/
def angle (p : IVec S8320 32) : FVec Ideal S8320x64 .f32 :=
  mulf (broadcastInDim S8320x64 ![0, 1] bcast_S8320x1_S8320x64_0_1 (broadcastInDim S8320x1 ![0] bcast_S8320_S8320x1_0 (sitofp .f32 p)))
    (broadcastInDim S8320x64 ![0, 1] bcast_S1x64_S8320x64_0_1 (broadcastInDim S1x64 ![1] bcast_S64_S1x64_1
      (Host.powf (broadcastInDim S64 ![] bcast_S_S64 (constant S_ .f32 0x461C4000#32))
        (Host.divf (Host.negf (addf (broadcastInDim S64 ![] bcast_S_S64 (constant S_ .f32 0x00000000#32))
          (mulf (broadcastInDim S64 ![] bcast_S_S64 (constant S_ .f32 0x40000000#32)) (sitofp .f32 (iotaInDim S64 32 0)))))
          (broadcastInDim S64 ![] bcast_S_S64 (constant S_ .f32 0x43000000#32))))))

/-- The rotated queries, from the projection and the cosines and sines. -/
def queries (y : FVec Ideal S8320x6144 .f32) (cs sn : FVec Ideal S8320x64 .f32) : FVec Ideal S8320x4096 .f32 :=
  let h := shapeCast S8320x32x128 (extractStridedSlice S8320x4096 ![0, 0] y slices_S8320x6144_S8320x4096_0_0) shapeCasts_S8320x4096_S8320x32x128
  let h1 := extractStridedSlice S8320x32x64 ![0, 0, 0] h slices_S8320x32x128_S8320x32x64_0_0_0
  let h2 := extractStridedSlice S8320x32x64 ![0, 0, 64] h slices_S8320x32x128_S8320x32x64_0_0_64
  let c := broadcastInDim S8320x32x64 ![0, 1, 2] bcast_S8320x1x64_S8320x32x64_0_1_2 (broadcastInDim S8320x1x64 ![0, 2] bcast_S8320x64_S8320x1x64_0_2 cs)
  let s := broadcastInDim S8320x32x64 ![0, 1, 2] bcast_S8320x1x64_S8320x32x64_0_1_2 (broadcastInDim S8320x1x64 ![0, 2] bcast_S8320x64_S8320x1x64_0_2 sn)
  shapeCast S8320x4096 (concatenate S8320x32x128 2 [⟨S8320x32x64, subf (mulf h1 c) (mulf h2 s)⟩, ⟨S8320x32x64, addf (mulf h2 c) (mulf h1 s)⟩]
    concatenates_S8320x32x64_S8320x32x64_S8320x32x128_d2) shapeCasts_S8320x32x128_S8320x4096

/-- The rotated keys. -/
def keys (y : FVec Ideal S8320x6144 .f32) (cs sn : FVec Ideal S8320x64 .f32) : FVec Ideal S8320x1024 .f32 :=
  let h := shapeCast S8320x8x128 (extractStridedSlice S8320x1024 ![0, 4096] y slices_S8320x6144_S8320x1024_0_4096) shapeCasts_S8320x1024_S8320x8x128
  let h1 := extractStridedSlice S8320x8x64 ![0, 0, 0] h slices_S8320x8x128_S8320x8x64_0_0_0
  let h2 := extractStridedSlice S8320x8x64 ![0, 0, 64] h slices_S8320x8x128_S8320x8x64_0_0_64
  let c := broadcastInDim S8320x8x64 ![0, 1, 2] bcast_S8320x1x64_S8320x8x64_0_1_2 (broadcastInDim S8320x1x64 ![0, 2] bcast_S8320x64_S8320x1x64_0_2 cs)
  let s := broadcastInDim S8320x8x64 ![0, 1, 2] bcast_S8320x1x64_S8320x8x64_0_1_2 (broadcastInDim S8320x1x64 ![0, 2] bcast_S8320x64_S8320x1x64_0_2 sn)
  shapeCast S8320x1024 (concatenate S8320x8x128 2 [⟨S8320x8x64, subf (mulf h1 c) (mulf h2 s)⟩, ⟨S8320x8x64, addf (mulf h2 c) (mulf h1 s)⟩]
    concatenates_S8320x8x64_S8320x8x64_S8320x8x128_d2) shapeCasts_S8320x8x128_S8320x1024

/-- Queries, keys and values side by side. -/
def result (y : FVec Ideal S8320x6144 .f32) (cs sn : FVec Ideal S8320x64 .f32) : FVec Ideal S8320x6144 .f32 :=
  concatenate S8320x6144 1 [⟨S8320x4096, queries y cs sn⟩, ⟨S8320x1024, keys y cs sn⟩,
    ⟨S8320x1024, extractStridedSlice S8320x1024 ![0, 5120] y slices_S8320x6144_S8320x1024_0_5120⟩]
    concatenates_S8320x4096_S8320x1024_S8320x1024_S8320x6144_d1

/-- The reference's result is this one. -/
theorem res_eq (m : (ℓ : Loc nD τ sig) → Buf (Elt Ideal) ℓ) (c : Dev nD) : res_out0 (F := Ideal) m c
    = result (product (m ((c : Thread nD τ).loc main_arg0)) (m ((c : Thread nD τ).loc main_arg1)))
        (Host.cos (angle (m ((c : Thread nD τ).loc main_arg2)))) (Host.sin (angle (m ((c : Thread nD τ).loc main_arg2)))) := by
  unfold res_out0 res_main_v77 result queries keys product angle
  rfl

/-- An entry of the projection. -/
theorem product_apply (a : FVec Ideal S8320x4096 .bf16) (w : FVec Ideal S1x4096x6144 .bf16) (j : S8320x6144.Idx) :
    product a w j = ∑ k : Fin 4096, a (ix2 (j 0) k) * w (ix3 0 k (j 1)) := by
  unfold product
  pointwise

/-- An entry of a rotated head: in the first half of the head's columns the column itself and its partner in the second
    half, in the second half likewise with the partner in the first. -/
def turned (y : FVec Ideal S8320x6144 .f32) (cs sn : FVec Ideal S8320x64 .f32) (r : Fin 8320) (q : Fin 6144) : EReal :=
  if h : q.val % 128 < 64 then
    y (ix2 r q) * cs (ix2 r ⟨q.val % 128, h⟩) - y (ix2 r ⟨q.val + 64, by omega⟩) * sn (ix2 r ⟨q.val % 128, h⟩)
  else y (ix2 r q) * cs (ix2 r ⟨q.val % 128 - 64, by omega⟩) + y (ix2 r ⟨q.val - 64, by omega⟩) * sn (ix2 r ⟨q.val % 128 - 64, by omega⟩)

/-- A rotated query. -/
theorem queries_apply (y : FVec Ideal S8320x6144 .f32) (cs sn : FVec Ideal S8320x64 .f32) (r : Fin 8320) (q : Fin 4096) :
    queries y cs sn (ix2 r q) = turned y cs sn r ⟨q.val, by omega⟩ := by
  unfold queries turned
  pointwise
  have hd : q.val / 128 * 128 + q.val % 128 = q.val := by omega
  split <;> congr! 4 <;> exact Fin.ext (by dsimp only; omega)

/-- A rotated key. -/
theorem keys_apply (y : FVec Ideal S8320x6144 .f32) (cs sn : FVec Ideal S8320x64 .f32) (r : Fin 8320) (q : Fin 1024) :
    keys y cs sn (ix2 r q) = turned y cs sn r ⟨4096 + q.val, by omega⟩ := by
  unfold keys turned
  pointwise
  have hd : q.val / 128 * 128 + q.val % 128 = q.val := by omega
  split
  · split
    · congr! 4 <;> exact Fin.ext (by dsimp only; omega)
    · omega
  · split
    · omega
    · congr! 4 <;> exact Fin.ext (by dsimp only; omega)

/-- An entry of the result. -/
theorem result_apply (y : FVec Ideal S8320x6144 .f32) (cs sn : FVec Ideal S8320x64 .f32) (r : Fin 8320) (q : Fin 6144) :
    result y cs sn (ix2 r q) = if q.val < 5120 then turned y cs sn r q else y (ix2 r q) := by
  unfold result
  pointwise
  rcases Nat.lt_or_ge q.val 4096 with h | h
  · exact (dif_pos h).trans ((queries_apply y cs sn r ⟨q.val, h⟩).trans (if_pos (by omega)).symm)
  refine (dif_neg (by omega)).trans ?_
  rcases Nat.lt_or_ge q.val 5120 with h' | h'
  · have e : (⟨4096 + (q.val - 4096), by omega⟩ : Fin 6144) = q := Fin.ext (by dsimp only; omega)
    exact (dif_pos (by omega)).trans ((keys_apply y cs sn r ⟨q.val - 4096, by omega⟩).trans ((congrArg (turned y cs sn r) e).trans (if_pos h').symm))
  · have e : (⟨5120 + (q.val - 4096 - 1024), by omega⟩ : Fin 6144) = q := Fin.ext (by dsimp only; omega)
    exact (dif_neg (by omega)).trans ((congrArg (fun i => y (ix2 r i)) e).trans (if_neg (by omega)).symm)

end Cert.QkvRefIdeal.Value

end
-- ==== Proof.QkvClaim.lean ====
/- The query, key and value projection with the rotary embedding: the kernel's result is the reference's. -/
module

public import proofs.«01_k».proof.Defs
public import proofs.«01_k».proof.Proof.QkvRef
public import proofs.«01_k».proof.Proof.Gen.QkvIdeal.Value
public import Idealize.ShloMosaic.Lib.Pipeline.ValueKit

@[expose] public section

set_option maxRecDepth 16384

noncomputable section

namespace Cert.QkvIdeal.Value

open Cert.QkvIdeal Cert.QkvIdeal.Gen Idealize.ShloMosaic Idealize.ShloMosaic.TcCoe Idealize.SL.Sem
open Cert.QkvRefIdeal.Value (product product_apply angle turned result result_apply res_eq)

variable (m : (ℓ : Loc nD τ sig) → Buf (Elt Ideal) ℓ)

/-- One head of a block: its columns times the cosines plus the columns turned by half a head times the signed sines. -/
def head (o : ℕ) (sl : S1040x1024.Slices ![0, o] S1040x128) (acc : FVec Ideal S1040x1024 .f32) (cb sb : Vec Ideal S1040x128 .f32) : FVec Ideal S1040x128 .f32 :=
  addf (mulf (extractStridedSlice S1040x128 ![0, o] acc sl) (k0_pay5 cb))
    (mulf (dynamicRotate 1 64#32 none (extractStridedSlice S1040x128 ![0, o] acc sl) rotates_S1040x128_d1) (k0_pay6 sb))

/-- An entry of a head. -/
theorem head_apply (o : ℕ) (ho : o + 128 ≤ 1024) (sl : S1040x1024.Slices ![0, o] S1040x128) (acc : FVec Ideal S1040x1024 .f32)
    (cb sb : Vec Ideal S1040x128 .f32) (r : Fin 1040) (d : Fin 128) :
    (head o sl acc cb sb (ix2 r d) : EReal) = acc (ix2 r ⟨o + d.val, by omega⟩) * cb (ix2 r d)
      + acc (ix2 r ⟨o + (d.val + 64) % 128, by omega⟩) * sb (ix2 r d) := by
  unfold head k0_pay5 k0_pay6
  pointwise
  have e : (d.val + 128 - 64) % 128 = (d.val + 64) % 128 := by omega
  congr! 4

/-- An entry of a block's product. -/
theorem product_block (x : Vec Ideal S1040x4096 .bf16) (w : Vec Ideal S1x4096x1024 .bf16) (j : S1040x1024.Idx) :
    (k0_pay1 (F := Ideal) x w j : EReal) = ∑ k : Fin 4096, x (ix2 (j 0) k) * w (ix3 0 k (j 1)) := by
  pointwise [k0_pay1]

/-- The windows' block indices at a grid point. -/
theorem idx : ∀ t : Fin cfg0.N, win0_0.index t = ![t.val / 6, 0] ∧ win0_1.index t = ![0, 0, t.val % 6]
    ∧ win0_2.index t = ![t.val / 6, 0] ∧ win0_3.index t = ![t.val / 6, 0] ∧ win0_4.index t = ![t.val / 6, t.val % 6] :=
  (by decide +kernel : ∀ t : Fin grid0.N, _)

theorem point_lt (t : Fin cfg0.N) : t.val < 48 := t.isLt

/-- The cosines and the sines of the positions' angles. -/
abbrev cosines (c : Dev nD) : FVec Ideal S8320x64 .f32 := Host.cos (angle (m ((c : Thread nD τ).loc main_arg2)))
abbrev sines (c : Dev nD) : FVec Ideal S8320x64 .f32 := Host.sin (angle (m ((c : Thread nD τ).loc main_arg2)))

/-- The projection of all rows. -/
abbrev full (c : Dev nD) : FVec Ideal S8320x6144 .f32 := product (m ((c : Thread nD τ).loc main_arg0)) (m ((c : Thread nD τ).loc main_arg1))

/-- The two tables the kernel reads: the cosines twice, and the sines with the first copy negated. -/
theorem V_cos (c : Dev nD) : V m c main_v18
    = concatenate S8320x128 1 [⟨S8320x64, cosines m c⟩, ⟨S8320x64, cosines m c⟩] concatenates_S8320x64_S8320x64_S8320x128_d1 := by
  unfold cosines angle
  after_results <;> rfl

theorem V_sin (c : Dev nD) : V m c main_v20
    = concatenate S8320x128 1 [⟨S8320x64, Host.negf (sines m c)⟩, ⟨S8320x64, sines m c⟩] concatenates_S8320x64_S8320x64_S8320x128_d1 := by
  unfold sines angle
  after_results <;> rfl

/-- The tables' blocks read at an index. -/
theorem cos_apply (c : Dev nD) (t : Fin cfg0.N) (r : Fin 1040) (d : Fin 128) :
    (iblk m c 2 t (ix2 r d) : EReal) = cosines m c (ix2 ⟨1040 * (t.val / 6) + r.val, by have := point_lt t; omega⟩ ⟨d.val % 64, by omega⟩) := by
  have ht := point_lt t
  have e : (iblk m c 2 t (ix2 r d) : EReal) = V m c main_v18 (ix2 ⟨1040 * (t.val / 6) + r.val, by omega⟩ d) := by
    blk_ext [iblk, idx t]
  rw [e, V_cos]
  pointwise
  split <;> congr! 3 <;> exact Fin.ext (by dsimp only; omega)

theorem sin_apply (c : Dev nD) (t : Fin cfg0.N) (r : Fin 1040) (d : Fin 128) :
    (iblk m c 3 t (ix2 r d) : EReal) = if d.val < 64
      then -(sines m c (ix2 ⟨1040 * (t.val / 6) + r.val, by have := point_lt t; omega⟩ ⟨d.val % 64, by omega⟩) : EReal)
      else sines m c (ix2 ⟨1040 * (t.val / 6) + r.val, by have := point_lt t; omega⟩ ⟨d.val % 64, by omega⟩) := by
  have ht := point_lt t
  have e : (iblk m c 3 t (ix2 r d) : EReal) = V m c main_v20 (ix2 ⟨1040 * (t.val / 6) + r.val, by omega⟩ d) := by
    blk_ext [iblk, idx t]
  rw [e, V_sin]
  pointwise
  split
  · congr! 4 <;> exact Fin.ext (by dsimp only; omega)
  · congr! 3 <;> exact Fin.ext (by dsimp only; omega)

/-- A block's product is the full product at the block's place. -/
theorem full_apply (c : Dev nD) (t : Fin cfg0.N) (r : Fin 1040) (d : Fin 1024) :
    (k0_pay1 (F := Ideal) (iblk m c 0 t) (iblk m c 1 t) (ix2 r d) : EReal)
      = full m c (ix2 ⟨1040 * (t.val / 6) + r.val, by have := point_lt t; omega⟩ ⟨1024 * (t.val % 6) + d.val, by omega⟩) := by
  have ht := point_lt t
  refine (product_block _ _ _).trans ((product_apply _ _ _).trans ?_).symm
  refine Finset.sum_congr rfl fun k _ => congrArg₂ (fun p q : EReal => p * q) ?_ ?_
  · blk_ext [iblk, V_main_arg0, idx t]
  · blk_ext [iblk, V_main_arg1, idx t]

/-- What a store writes at its place in the result: one rotated head. -/
theorem store (c : Dev nD) (t : Fin cfg0.N) (h : t.val % 6 ≤ 4) (y : ((cfg0.win 4).xblock (cfg0.grid.coords t)).Idx) (x : S1040x128.Idx)
    (o : ℕ) (ho : o + 128 ≤ 1024) (hm : o % 128 = 0) (sl : S1040x1024.Slices ![0, o] S1040x128)
    (e0 : ((win0 4).xinj (grid0.coords t) y 0).val = (x 0).val) (e1 : ((win0 4).xinj (grid0.coords t) y 1).val = o + (x 1).val) :
    head o sl (k0_pay1 (F := Ideal) (iblk m c 0 t) (iblk m c 1 t)) (iblk m c 2 t) (iblk m c 3 t) x
      = result (full m c) (cosines m c) (sines m c) (((View.whole main_v21).slice ((win0 4).rect t)).emb y) := by
  obtain ⟨i0, i1, i2, i3, i4⟩ := idx t
  have ht := point_lt t
  obtain ⟨r, d, rfl⟩ : ∃ (r : Fin 1040) (d : Fin 128), x = ix2 r d := ⟨x 0, x 1, by funext a; fin_cases a <;> rfl⟩
  have e0' : (y 0).val = r.val := e0
  have e1' : (y 1).val = o + d.val := e1
  have e : ((View.whole main_v21).slice ((win0 4).rect t)).emb y
      = ix2 (⟨1040 * (t.val / 6) + r.val, by omega⟩ : Fin 8320) (⟨1024 * (t.val % 6) + (o + d.val), by omega⟩ : Fin 6144) := by
    blk_ext [i4]
  have hd : (1024 * (t.val % 6) + (o + d.val)) % 128 = d.val := by omega
  rw [e]
  refine (head_apply o ho sl _ _ _ r d).trans ((result_apply _ _ _ _ _).trans ((if_pos (by dsimp only; omega)).trans ?_)).symm
  rw [full_apply, full_apply, cos_apply, sin_apply]
  unfold turned
  rcases Nat.lt_or_ge d.val 64 with hl | hl
  · rw [dif_pos (by dsimp only; omega), if_pos hl, mul_neg, ← sub_eq_add_neg]
    congr! 4 <;> exact Fin.ext (by dsimp only; omega)
  · rw [dif_neg (by dsimp only; omega), if_neg (by omega)]
    congr! 4 <;> exact Fin.ext (by dsimp only; omega)

set_option maxHeartbeats 4000000 in
/-- The array the kernel leaves is the reference's result. -/
theorem final (c : Dev nD) : (dats m 0 c).arrAt 4 cfg0.N = result (full m c) (cosines m c) (sines m c) := by
  refine (dats m 0 c).arrAt_eq_of_covers 4 _ (by decide +kernel) fun t hf y => ?_
  rw [after0_4]
  by_cases h : t.val % 6 ≤ 4
  · rw [outsAt0_A m c t h (by omega)]
    frame_out
    canon_tiles x e
    · exact store m c t h y x 896 (by decide) (by decide) _ e0 (by omega)
    · exact store m c t h y x 768 (by decide) (by decide) _ e0 (by omega)
    · exact store m c t h y x 640 (by decide) (by decide) slices_S1040x1024_o0_640_S1040x128 e0 (by omega)
    · exact store m c t h y x 512 (by decide) (by decide) _ e0 (by omega)
    · exact store m c t h y x 384 (by decide) (by decide) _ e0 (by omega)
    · exact store m c t h y x 256 (by decide) (by decide) _ e0 (by omega)
    · exact store m c t h y x 128 (by decide) (by decide) _ e0 (by omega)
    · exact store m c t h y x 0 (by decide) (by decide) _ e0 (by omega)
  · obtain ⟨i0, i1, i2, i3, i4⟩ := idx t
    have ht := point_lt t
    rw [outsAt0_B m c t h (by omega)]
    frame_out
    blk_simp
    obtain ⟨r, d, rfl⟩ : ∃ (r : Fin 1040) (d : Fin 1024), y = ix2 r d := ⟨y 0, y 1, by funext a; fin_cases a <;> rfl⟩
    refine (full_apply m c t r d).trans ?_
    have e : ((View.whole main_v21).slice ((win0 4).rect t)).emb (ix2 r d)
        = ix2 (⟨1040 * (t.val / 6) + r.val, by omega⟩ : Fin 8320) (⟨1024 * (t.val % 6) + d.val, by omega⟩ : Fin 6144) := by
      blk_ext [i4]
    refine Eq.trans ?_ (congrArg _ e).symm
    exact ((result_apply _ _ _ _ _).trans (if_neg (by dsimp only; omega))).symm

/-- Both run, the kernel's result is the reference's. -/
theorem claim : Cert.algebraic_QkvIdeal_QkvRefIdeal := by
  intro m ρ m' ρ' _ hagree
  refine ⟨fun c => result (full m c) (cosines m c) (sines m c),
    (θ_run defs _ _).mono (fun _ h c => ⟨(h c).1.trans (final m c), (h c).2⟩) (run_blocks m ρ), ?_⟩
  refine (θ_run Cert.QkvRefIdeal.defs _ _).mono
    (fun _ h c => ⟨(h c).1.trans ((res_eq m' c).trans ?_), (h c).2⟩) (Cert.QkvRefIdeal.Value.run m' ρ')
  rw [(hagree c).1, (hagree c).2.1, (hagree c).2.2]

end Cert.QkvIdeal.Value

end
-- ==== Proof.SideClaim.lean ====
/- The down projection with the two casts on the side: its first result is the projection with its residual, as without
them, and the other two are one layer's weights. -/
module

public import proofs.«01_k».proof.Defs
public import proofs.«01_k».proof.Proof.DownClaim
public import proofs.«01_k».proof.Proof.Gen.SideIdeal.Value
public import proofs.«01_k».proof.Proof.Gen.SideRefIdeal.Run

@[expose] public section

set_option maxRecDepth 16384

noncomputable section

namespace Cert.SideRefIdeal.Value

open Cert.SideRefIdeal Cert.SideRefIdeal.Gen Idealize.ShloMosaic Idealize.ShloMosaic.TcCoe

/-- The first layer's projection weights, -/
def wideCast (w : FVec Ideal S2x4096x6144 .f32) : FVec Ideal S4096x6144 .bf16 :=
  truncf .bf16 (shapeCast _ (extractStridedSlice S1x4096x6144 ![0, 0, 0] w slices_S2x4096x6144_S1x4096x6144_0_0_0) shapeCasts_S1x4096x6144_S4096x6144) bitsLt_bf16_f32

/-- and its output weights. -/
def squareCast (w : FVec Ideal S2x4096x4096 .f32) : FVec Ideal S4096x4096 .bf16 :=
  truncf .bf16 (shapeCast _ (extractStridedSlice S1x4096x4096 ![0, 0, 0] w slices_S2x4096x4096_S1x4096x4096_0_0_0) shapeCasts_S1x4096x4096_S4096x4096) bitsLt_bf16_f32

/-- Both read at an index. -/
theorem wideCast_apply (w : FVec Ideal S2x4096x6144 .f32) (j : S4096x6144.Idx) : (wideCast w j : EReal) = w (ix3 0 (j 0) (j 1)) := by
  unfold wideCast
  pointwise

theorem squareCast_apply (w : FVec Ideal S2x4096x4096 .f32) (j : S4096x4096.Idx) : (squareCast w j : EReal) = w (ix3 0 (j 0) (j 1)) := by
  unfold squareCast
  pointwise

end Cert.SideRefIdeal.Value

namespace Cert.SideIdeal.Value

open Cert.SideIdeal Cert.SideIdeal.Gen Idealize.ShloMosaic Idealize.ShloMosaic.TcCoe Idealize.SL.Sem
open Cert.DownIdeal.Value (part first_apply later_apply)
open Cert.DownRefIdeal.Value (project project_apply)

variable (m : (ℓ : Loc nD τ sig) → Buf (Elt Ideal) ℓ)

/-- The side blocks read at an index. -/
theorem wide_apply (w : FVec Ideal S1x32x6144 .f32) (j : S32x6144.Idx) : (k0_pay3 (F := Ideal) w j : EReal) = w (ix3 0 (j 0) (j 1)) := by
  pointwise [k0_pay3]

theorem square_apply (w : FVec Ideal S1x32x4096 .f32) (j : S32x4096.Idx) : (k0_pay4 (F := Ideal) w j : EReal) = w (ix3 0 (j 0) (j 1)) := by
  pointwise [k0_pay4]

/-- The windows' block indices at a grid point: the projection's as before, -/
theorem idx : ∀ t : Fin cfg0.N, win0_0.index t = ![t.val / (4 * 4), t.val % 4] ∧ win0_1.index t = ![0, t.val % 4, t.val / 4 % 4]
    ∧ win0_2.index t = ![t.val / (4 * 4), t.val / 4 % 4] ∧ win0_5.index t = ![t.val / (4 * 4), t.val / 4 % 4] :=
  (by decide +kernel : ∀ t : Fin grid0.N, _)

/-- and those on the side, one block of rows per point. -/
theorem idx_side : ∀ t : Fin cfg0.N, win0_3.index t = ![0, t.val, 0] ∧ win0_4.index t = ![0, t.val, 0]
    ∧ win0_6.index t = ![t.val, 0] ∧ win0_7.index t = ![t.val, 0] :=
  (by decide +kernel : ∀ t : Fin grid0.N, _)

/-- The first array the kernel leaves. -/
theorem final (c : Dev nD) : (dats m 0 c).arrAt 5 cfg0.N
    = project (m ((c : Thread nD τ).loc main_arg0)) (m ((c : Thread nD τ).loc main_arg1)) (m ((c : Thread nD τ).loc main_arg2)) := by
  refine (dats m 0 c).arrAt_eq_of_covers 5 _ (by decide +kernel) fun t hf y => ?_
  blk_simp
  rw [after0_5, RunSum.start_sum (fun n h => (outsAt0 m c n h).1) (J := 4) (fun t => iblk m c 2 t) (fun t => part (iblk m c 0 t) (iblk m c 1 t))
    (fun t h j => by rw [outsAt0_A m c t h (by omega)]; frame_out; exact first_apply _ _ _ j)
    (fun t h j => by rw [outsAt0_B m c t h (by omega)]; frame_out; exact later_apply _ _ _ j)
    t ((flush0_5 t).mp hf) _, project_apply]
  have hm := (flush0_5 t).mp hf
  refine congrArg₂ (fun p q : EReal => p + q) ?_ ?_
  · blk_ext [iblk, V, idx t, idx ⟨_, Pipeline.run_point_lt_of_flush t hm 0⟩]
  · unfold part
    refine Fin.sum_mul_add_congr fun s k hl => ?_
    refine congrArg₂ (fun p q : EReal => p * q) ?_ ?_
    · blk_ext [iblk, V, idx t, idx ⟨_, Pipeline.run_point_lt_of_flush t hm s⟩]
    · blk_ext [iblk, V, idx t, idx ⟨_, Pipeline.run_point_lt_of_flush t hm s⟩]

/-- Every point stores the two side blocks. -/
theorem side_blocks (c : Dev nD) (t : Fin cfg0.N) :
    (outsAt0 m c t.val t.isLt).2 = (k0_pay3 (F := Ideal) (iblk m c 3 t), k0_pay4 (F := Ideal) (iblk m c 4 t)) := by
  by_cases h : t.val % 4 = 0
  · rw [outsAt0_A m c t h (by omega)]
    refine Prod.ext ?_ ?_ <;> frame_out
  · rw [outsAt0_B m c t h (by omega)]
    refine Prod.ext ?_ ?_ <;> frame_out

/-- The second array the kernel leaves, -/
theorem final_wide (c : Dev nD) : (dats m 0 c).arrAt 6 cfg0.N
    = Cert.SideRefIdeal.Value.wideCast (m ((c : Thread nD τ).loc main_arg3)) := by
  refine (dats m 0 c).arrAt_eq_of_covers 6 _ (by decide +kernel) fun t hf y => ?_
  blk_simp
  rw [after0_6, side_blocks, Cert.SideRefIdeal.Value.wideCast_apply]
  refine (wide_apply (iblk m c 3 t) y).trans ?_
  blk_ext [iblk, V, idx_side t]

/-- and the third. -/
theorem final_square (c : Dev nD) : (dats m 0 c).arrAt 7 cfg0.N
    = Cert.SideRefIdeal.Value.squareCast (m ((c : Thread nD τ).loc main_arg4)) := by
  refine (dats m 0 c).arrAt_eq_of_covers 7 _ (by decide +kernel) fun t hf y => ?_
  blk_simp
  rw [after0_7, side_blocks, Cert.SideRefIdeal.Value.squareCast_apply]
  refine (square_apply (iblk m c 4 t) y).trans ?_
  blk_ext [iblk, V, idx_side t]

/-- Both run, the kernel's results are the reference's. -/
theorem claim : Cert.algebraic_SideIdeal_SideRefIdeal := by
  intro m ρ m' ρ' _ hagree
  refine ⟨fun c => project (m ((c : Thread nD τ).loc main_arg0)) (m ((c : Thread nD τ).loc main_arg1)) (m ((c : Thread nD τ).loc main_arg2)),
    fun c => Cert.SideRefIdeal.Value.wideCast (m ((c : Thread nD τ).loc main_arg3)),
    fun c => Cert.SideRefIdeal.Value.squareCast (m ((c : Thread nD τ).loc main_arg4)),
    (θ_run defs _ _).mono (fun _ h c => ⟨(h c).1.trans (final m c), (h c).2.1.trans (final_wide m c), (h c).2.2.1.trans (final_square m c), (h c).2.2.2⟩)
      (run_blocks m ρ), ?_⟩
  refine (θ_run Cert.SideRefIdeal.defs _ _).mono
    (fun _ h c => ⟨(h c).1.trans ?_, (h c).2.1.trans ?_, (h c).2.2.1.trans ?_, (h c).2.2.2⟩) (Cert.SideRefIdeal.Value.run m' ρ')
  · rw [(hagree c).1, (hagree c).2.1, (hagree c).2.2.1]
    rfl
  · rw [(hagree c).2.2.2.1]
    rfl
  · rw [(hagree c).2.2.2.2]
    rfl

end Cert.SideIdeal.Value

end
-- ==== Proof.NormClaim.lean ====
/- The norms: of all rows before a half of the layer, and the last one of the prompt's and of the sample's rows. -/
module

public import proofs.«01_k».proof.Defs
public import proofs.«01_k».proof.Proof.Gen.NormIdeal.Value
public import proofs.«01_k».proof.Proof.Gen.NormRefIdeal.Run
public import proofs.«01_k».proof.Proof.Gen.YPromptIdeal.Value
public import proofs.«01_k».proof.Proof.Gen.YPromptRefIdeal.Run
public import proofs.«01_k».proof.Proof.Gen.YSampleIdeal.Value
public import proofs.«01_k».proof.Proof.Gen.YSampleRefIdeal.Run
public import Idealize.ShloMosaic.Lib.Pointwise
public import Idealize.ShloMosaic.Lib.Pipeline.ValueKit

@[expose] public section

set_option maxRecDepth 16384

noncomputable section

namespace Cert.RowNorm

open Idealize.ShloMosaic Idealize.ShloMosaic.TcCoe

/-- A normed entry: the row's entry times the reciprocal root of the row's mean square, times the gain. -/
def entry (x : Fin 4096 → EReal) (g : EReal) (d : Fin 4096) : EReal :=
  x d * Ideal.rsqrt (Ideal.div (∑ k, x k * x k) (Scalar.ofBits (F := Ideal) .f32 0x45800000#32) + Scalar.ofBits (F := Ideal) .f32 0x358637BD#32) * g

end Cert.RowNorm

namespace Cert.NormRefIdeal.Value

open Cert.NormRefIdeal Cert.NormRefIdeal.Gen Idealize.ShloMosaic Idealize.ShloMosaic.TcCoe

/-- The reference's norm, -/
def norm (x : FVec Ideal S8320x4096 .f32) (g : FVec Ideal S4096 .f32) : FVec Ideal S8320x4096 .bf16 :=
  truncf .bf16 (mulf (mulf x (broadcastInDim S8320x4096 ![0, 1] bcast_S8320x1_S8320x4096_0_1 (Host.rsqrt (addf (Host.divf (broadcastInDim S8320x1 ![0] bcast_S8320_S8320x1_0 (Host.reduceAdd (mulf x x) (constant S_ .f32 0x00000000#32) reducesTo_S8320x4096_S8320_d1 h_S_)) (broadcastInDim S8320x1 ![] bcast_S_S8320x1 (constant S_ .f32 0x45800000#32))) (broadcastInDim S8320x1 ![] bcast_S_S8320x1 (constant S_ .f32 0x358637BD#32)))))) (broadcastInDim S8320x4096 ![0, 1] bcast_S1x4096_S8320x4096_0_1 (broadcastInDim S1x4096 ![1] bcast_S4096_S1x4096_1 g))) bitsLt_bf16_f32

/-- read at an index. -/
theorem norm_apply (x : FVec Ideal S8320x4096 .f32) (g : FVec Ideal S4096 .f32) (r : Fin 8320) (d : Fin 4096) :
    (norm x g (ix2 r d) : EReal) = RowNorm.entry (fun k => x (ix2 r k)) (g (ix1 d)) d := by
  unfold norm RowNorm.entry
  pointwise

end Cert.NormRefIdeal.Value

namespace Cert.NormIdeal.Value

open Cert.NormIdeal Cert.NormIdeal.Gen Idealize.ShloMosaic Idealize.ShloMosaic.TcCoe Idealize.SL.Sem

variable (m : (ℓ : Loc nD τ sig) → Buf (Elt Ideal) ℓ)

/-- A block's norm. -/
theorem block_apply (x : Vec Ideal S416x4096 .f32) (g : Vec Ideal S1x4096 .f32) (r : Fin 416) (d : Fin 4096) :
    (k0_pay1 (F := Ideal) x g (ix2 r d) : EReal) = RowNorm.entry (fun k => x (ix2 r k)) (g (ix2 0 d)) d := by
  unfold RowNorm.entry
  pointwise [k0_pay1]

theorem idx : ∀ t : Fin cfg0.N, win0_0.index t = ![t.val, 0] ∧ win0_1.index t = ![0, 0] ∧ win0_2.index t = ![t.val, 0] :=
  (by decide +kernel : ∀ t : Fin grid0.N, _)

theorem point_lt (t : Fin cfg0.N) : t.val < 20 := t.isLt

/-- The gain as the kernel's region finds it: with a leading axis of one. -/
theorem V_gain (c : Dev nD) : V m c main_v0 = shapeCast S1x4096 (m ((c : Thread nD τ).loc main_arg1) : FVec Ideal S4096 .f32) shapeCasts_S4096_S1x4096 := by
  rfl

theorem gain_apply (c : Dev nD) (t : Fin cfg0.N) (d : Fin 4096) :
    (iblk m c 1 t (ix2 0 d) : EReal) = m ((c : Thread nD τ).loc main_arg1) (ix1 d) := by
  have e : (iblk m c 1 t (ix2 0 d) : EReal) = V m c main_v0 (ix2 0 d) := by
    blk_ext [iblk, idx t]
  rw [e, V_gain]
  refine (shapeCast_apply _ _ _ (ix1 d) ?_).trans rfl
  rw [Shape.rowMajor_val_one, Shape.rowMajor_val_two]
  show d.val = 0 * 4096 + d.val
  omega

/-- The array the kernel leaves. -/
theorem final (c : Dev nD) : (dats m 0 c).arrAt 2 cfg0.N
    = Cert.NormRefIdeal.Value.norm (m ((c : Thread nD τ).loc main_arg0)) (m ((c : Thread nD τ).loc main_arg1)) := by
  refine (dats m 0 c).arrAt_eq_of_covers 2 _ (by decide +kernel) fun t hf y => ?_
  obtain ⟨i0, i1, i2⟩ := idx t
  have ht := point_lt t
  rw [after0_2]
  frame_out
  blk_simp
  obtain ⟨r, d, rfl⟩ : ∃ (r : Fin 416) (d : Fin 4096), y = ix2 r d := ⟨y 0, y 1, by funext a; fin_cases a <;> rfl⟩
  have e : ((View.whole main_v1).slice ((win0 2).rect t)).emb (ix2 r d) = ix2 (⟨416 * t.val + r.val, by omega⟩ : Fin 8320) d := by
    blk_ext [i2]
  refine (block_apply _ _ r d).trans (((congrArg _ e).trans (Cert.NormRefIdeal.Value.norm_apply _ _ _ _)).trans ?_).symm
  refine congrArg₂ (fun p q => RowNorm.entry p q d) (funext fun k => ?_) (gain_apply m c t d).symm
  blk_ext [iblk, V_main_arg0, i0]

/-- Both run, the kernel's result is the reference's. -/
theorem claim : Cert.algebraic_NormIdeal_NormRefIdeal := by
  intro m ρ m' ρ' _ hagree
  refine ⟨fun c => Cert.NormRefIdeal.Value.norm (m ((c : Thread nD τ).loc main_arg0)) (m ((c : Thread nD τ).loc main_arg1)),
    (θ_run defs _ _).mono (fun _ h c => ⟨(h c).1.trans (final m c), (h c).2⟩) (run_blocks m ρ), ?_⟩
  refine (θ_run Cert.NormRefIdeal.defs _ _).mono (fun _ h c => ⟨(h c).1.trans ?_, (h c).2⟩) (Cert.NormRefIdeal.Value.run m' ρ')
  rw [(hagree c).1, (hagree c).2]
  rfl

end Cert.NormIdeal.Value

namespace Cert.YPromptRefIdeal.Value

open Cert.YPromptRefIdeal Cert.YPromptRefIdeal.Gen Idealize.ShloMosaic Idealize.ShloMosaic.TcCoe

/-- The reference's norm of the prompt's rows, -/
def norm (a : FVec Ideal S8320x4096 .f32) (g : FVec Ideal S4096 .f32) : FVec Ideal S8192x4096 .f32 :=
  let x := extractStridedSlice S8192x4096 ![0, 0] a slices_S8320x4096_S8192x4096_0_0
  mulf (mulf x (broadcastInDim S8192x4096 ![0, 1] bcast_S8192x1_S8192x4096_0_1 (Host.rsqrt (addf (Host.divf (broadcastInDim S8192x1 ![0] bcast_S8192_S8192x1_0 (Host.reduceAdd (mulf x x) (constant S_ .f32 0x00000000#32) reducesTo_S8192x4096_S8192_d1 h_S_)) (broadcastInDim S8192x1 ![] bcast_S_S8192x1 (constant S_ .f32 0x45800000#32))) (broadcastInDim S8192x1 ![] bcast_S_S8192x1 (constant S_ .f32 0x358637BD#32)))))) (broadcastInDim S8192x4096 ![0, 1] bcast_S1x4096_S8192x4096_0_1 (broadcastInDim S1x4096 ![1] bcast_S4096_S1x4096_1 g))

/-- read at an index. -/
theorem norm_apply (x : FVec Ideal S8320x4096 .f32) (g : FVec Ideal S4096 .f32) (r : Fin 8192) (d : Fin 4096) :
    (norm x g (ix2 r d) : EReal) = RowNorm.entry (fun k => x (ix2 ⟨r.val, by omega⟩ k)) (g (ix1 d)) d := by
  unfold norm RowNorm.entry
  pointwise

end Cert.YPromptRefIdeal.Value

namespace Cert.YPromptIdeal.Value

open Cert.YPromptIdeal Cert.YPromptIdeal.Gen Idealize.ShloMosaic Idealize.ShloMosaic.TcCoe Idealize.SL.Sem

variable (m : (ℓ : Loc nD τ sig) → Buf (Elt Ideal) ℓ)

/-- A block's norm. -/
theorem block_apply (x : Vec Ideal S512x4096 .f32) (g : Vec Ideal S1x4096 .f32) (r : Fin 512) (d : Fin 4096) :
    (k0_pay1 (F := Ideal) x g (ix2 r d) : EReal) = RowNorm.entry (fun k => x (ix2 r k)) (g (ix2 0 d)) d := by
  unfold RowNorm.entry
  pointwise [k0_pay1]

theorem idx : ∀ t : Fin cfg0.N, win0_0.index t = ![t.val, 0] ∧ win0_1.index t = ![0, 0] ∧ win0_2.index t = ![t.val, 0] :=
  (by decide +kernel : ∀ t : Fin grid0.N, _)

theorem point_lt (t : Fin cfg0.N) : t.val < 16 := t.isLt

theorem V_gain (c : Dev nD) : V m c main_v0 = shapeCast S1x4096 (m ((c : Thread nD τ).loc main_arg1) : FVec Ideal S4096 .f32) shapeCasts_S4096_S1x4096 := by
  rfl

theorem gain_apply (c : Dev nD) (t : Fin cfg0.N) (d : Fin 4096) :
    (iblk m c 1 t (ix2 0 d) : EReal) = m ((c : Thread nD τ).loc main_arg1) (ix1 d) := by
  have e : (iblk m c 1 t (ix2 0 d) : EReal) = V m c main_v0 (ix2 0 d) := by
    blk_ext [iblk, idx t]
  rw [e, V_gain]
  refine (shapeCast_apply _ _ _ (ix1 d) ?_).trans rfl
  rw [Shape.rowMajor_val_one, Shape.rowMajor_val_two]
  show d.val = 0 * 4096 + d.val
  omega

/-- A block of rows read at an index: every block of the prompt lies whole in the array. -/
theorem rows_apply (c : Dev nD) (t : Fin cfg0.N) (r : Fin 512) (k : Fin 4096) :
    (X0_0 m c t (ix2 r k) : EReal) = m ((c : Thread nD τ).loc main_arg0) (ix2 ⟨512 * t.val + r.val, by have := point_lt t; omega⟩ k) := by
  unfold X0_0 Pipeline.Window.fill
  rw [dif_pos (moved0_0 t _)]
  blk_ext [iblk, V_main_arg0, idx t]

/-- The array the kernel leaves. -/
theorem final (c : Dev nD) : (dats m 0 c).arrAt 2 cfg0.N
    = Cert.YPromptRefIdeal.Value.norm (m ((c : Thread nD τ).loc main_arg0)) (m ((c : Thread nD τ).loc main_arg1)) := by
  refine (dats m 0 c).arrAt_eq_of_covers 2 _ (by decide +kernel) fun t hf y => ?_
  obtain ⟨i0, i1, i2⟩ := idx t
  have ht := point_lt t
  rw [after0_2]
  unfold outsAt0
  frame_out
  blk_simp
  obtain ⟨r, d, rfl⟩ : ∃ (r : Fin 512) (d : Fin 4096), y = ix2 r d := ⟨y 0, y 1, by funext a; fin_cases a <;> rfl⟩
  have e : ((View.whole main_v1).slice ((win0 2).rect t)).emb (ix2 r d) = ix2 (⟨512 * t.val + r.val, by omega⟩ : Fin 8192) d := by
    blk_ext [i2]
  refine (block_apply _ _ r d).trans (((congrArg _ e).trans (Cert.YPromptRefIdeal.Value.norm_apply _ _ _ _)).trans ?_).symm
  exact congrArg₂ (fun p q => RowNorm.entry p q d) (funext fun k => (rows_apply m c t r k).symm) (gain_apply m c t d).symm

/-- Both run, the kernel's result is the reference's. -/
theorem claim : Cert.algebraic_YPromptIdeal_YPromptRefIdeal := by
  intro m ρ m' ρ' _ hagree
  refine ⟨fun c => Cert.YPromptRefIdeal.Value.norm (m ((c : Thread nD τ).loc main_arg0)) (m ((c : Thread nD τ).loc main_arg1)),
    (θ_run defs _ _).mono (fun _ h c => ⟨(h c).1.trans (final m c), (h c).2⟩) (run_blocks m ρ), ?_⟩
  refine (θ_run Cert.YPromptRefIdeal.defs _ _).mono (fun _ h c => ⟨(h c).1.trans ?_, (h c).2⟩) (Cert.YPromptRefIdeal.Value.run m' ρ')
  rw [(hagree c).1, (hagree c).2]
  rfl

end Cert.YPromptIdeal.Value

namespace Cert.YSampleRefIdeal.Value

open Cert.YSampleRefIdeal Cert.YSampleRefIdeal.Gen Idealize.ShloMosaic Idealize.ShloMosaic.TcCoe

/-- The reference's norm of the sample's rows, -/
def norm (a : FVec Ideal S8320x4096 .f32) (g : FVec Ideal S4096 .f32) : FVec Ideal S128x4096 .f32 :=
  let x := extractStridedSlice S128x4096 ![8192, 0] a slices_S8320x4096_S128x4096_8192_0
  mulf (mulf x (broadcastInDim S128x4096 ![0, 1] bcast_S128x1_S128x4096_0_1 (Host.rsqrt (addf (Host.divf (broadcastInDim S128x1 ![0] bcast_S128_S128x1_0 (Host.reduceAdd (mulf x x) (constant S_ .f32 0x00000000#32) reducesTo_S128x4096_S128_d1 h_S_)) (broadcastInDim S128x1 ![] bcast_S_S128x1 (constant S_ .f32 0x45800000#32))) (broadcastInDim S128x1 ![] bcast_S_S128x1 (constant S_ .f32 0x358637BD#32)))))) (broadcastInDim S128x4096 ![0, 1] bcast_S1x4096_S128x4096_0_1 (broadcastInDim S1x4096 ![1] bcast_S4096_S1x4096_1 g))

/-- read at an index. -/
theorem norm_apply (x : FVec Ideal S8320x4096 .f32) (g : FVec Ideal S4096 .f32) (r : Fin 128) (d : Fin 4096) :
    (norm x g (ix2 r d) : EReal) = RowNorm.entry (fun k => x (ix2 ⟨8192 + r.val, by omega⟩ k)) (g (ix1 d)) d := by
  unfold norm RowNorm.entry
  pointwise

end Cert.YSampleRefIdeal.Value

namespace Cert.YSampleIdeal.Value

open Cert.YSampleIdeal Cert.YSampleIdeal.Gen Idealize.ShloMosaic Idealize.ShloMosaic.TcCoe Idealize.SL.Sem

variable (m : (ℓ : Loc nD τ sig) → Buf (Elt Ideal) ℓ)

/-- A block's norm. -/
theorem block_apply (x : Vec Ideal S128x4096 .f32) (g : Vec Ideal S1x4096 .f32) (r : Fin 128) (d : Fin 4096) :
    (k0_pay1 (F := Ideal) x g (ix2 r d) : EReal) = RowNorm.entry (fun k => x (ix2 r k)) (g (ix2 0 d)) d := by
  unfold RowNorm.entry
  pointwise [k0_pay1]

theorem idx : ∀ t : Fin cfg0.N, win0_0.index t = ![64, 0] ∧ win0_1.index t = ![0, 0] ∧ win0_2.index t = ![0, 0] :=
  (by decide +kernel : ∀ t : Fin grid0.N, _)

theorem V_gain (c : Dev nD) : V m c main_v0 = shapeCast S1x4096 (m ((c : Thread nD τ).loc main_arg1) : FVec Ideal S4096 .f32) shapeCasts_S4096_S1x4096 := by
  rfl

theorem gain_apply (c : Dev nD) (t : Fin cfg0.N) (d : Fin 4096) :
    (iblk m c 1 t (ix2 0 d) : EReal) = m ((c : Thread nD τ).loc main_arg1) (ix1 d) := by
  have e : (iblk m c 1 t (ix2 0 d) : EReal) = V m c main_v0 (ix2 0 d) := by
    blk_ext [iblk, idx t]
  rw [e, V_gain]
  refine (shapeCast_apply _ _ _ (ix1 d) ?_).trans rfl
  rw [Shape.rowMajor_val_one, Shape.rowMajor_val_two]
  show d.val = 0 * 4096 + d.val
  omega

/-- The array the kernel leaves. -/
theorem final (c : Dev nD) : (dats m 0 c).arrAt 2 cfg0.N
    = Cert.YSampleRefIdeal.Value.norm (m ((c : Thread nD τ).loc main_arg0)) (m ((c : Thread nD τ).loc main_arg1)) := by
  refine (dats m 0 c).arrAt_eq_of_covers 2 _ (by decide +kernel) fun t hf y => ?_
  obtain ⟨i0, i1, i2⟩ := idx t
  rw [after0_2]
  frame_out
  blk_simp
  obtain ⟨r, d, rfl⟩ : ∃ (r : Fin 128) (d : Fin 4096), y = ix2 r d := ⟨y 0, y 1, by funext a; fin_cases a <;> rfl⟩
  have e : ((View.whole main_v1).slice ((win0 2).rect t)).emb (ix2 r d) = ix2 r d := by
    blk_ext [i2]
  refine (block_apply _ _ r d).trans (((congrArg _ e).trans (Cert.YSampleRefIdeal.Value.norm_apply _ _ _ _)).trans ?_).symm
  refine congrArg₂ (fun p q => RowNorm.entry p q d) (funext fun k => ?_) (gain_apply m c t d).symm
  blk_ext [iblk, V_main_arg0, i0]

/-- Both run, the kernel's result is the reference's. -/
theorem claim : Cert.algebraic_YSampleIdeal_YSampleRefIdeal := by
  intro m ρ m' ρ' _ hagree
  refine ⟨fun c => Cert.YSampleRefIdeal.Value.norm (m ((c : Thread nD τ).loc main_arg0)) (m ((c : Thread nD τ).loc main_arg1)),
    (θ_run defs _ _).mono (fun _ h c => ⟨(h c).1.trans (final m c), (h c).2⟩) (run_blocks m ρ), ?_⟩
  refine (θ_run Cert.YSampleRefIdeal.defs _ _).mono (fun _ h c => ⟨(h c).1.trans ?_, (h c).2⟩) (Cert.YSampleRefIdeal.Value.run m' ρ')
  rw [(hagree c).1, (hagree c).2]
  rfl

end Cert.YSampleIdeal.Value

end
-- ==== Proof.lean ====
module

public import proofs.«01_k».proof.Defs
public import proofs.«01_k».proof.Proof.Gen.SwaPrompt
public import proofs.«01_k».proof.Proof.Gen.SwaPrompt.Skeleton
public import proofs.«01_k».proof.Proof.Gen.SwaPrompt.Launch
public import proofs.«01_k».proof.Proof.Gen.SwaPrompt.Points
public import proofs.«01_k».proof.Proof.Gen.SwaPrompt.Frame
public import proofs.«01_k».proof.Proof.Gen.SwaPromptIdeal
public import proofs.«01_k».proof.Proof.Gen.SwaPromptIdeal.Skeleton
public import proofs.«01_k».proof.Proof.Gen.SwaPromptIdeal.Launch
public import proofs.«01_k».proof.Proof.Gen.SwaPromptIdeal.Points
public import proofs.«01_k».proof.Proof.Gen.SwaPromptIdeal.Frame
public import proofs.«01_k».proof.Proof.Gen.SwaPromptRefIdeal
public import proofs.«01_k».proof.Proof.Gen.Pre_prompt_finite
public import proofs.«01_k».proof.Proof.Gen.SwaPromptIdeal.Value
public import proofs.«01_k».proof.Proof.Gen.SwaPromptRefIdeal.Run
public import proofs.«01_k».proof.Proof.Gen.Down.Frame
public import proofs.«01_k».proof.Proof.Gen.Qkv
public import proofs.«01_k».proof.Proof.Gen.Qkv.Frame
public import proofs.«01_k».proof.Proof.Gen.QkvIdeal
public import proofs.«01_k».proof.Proof.Gen.QkvIdeal.Value
public import proofs.«01_k».proof.Proof.Gen.QkvRefIdeal.Run
public import proofs.«01_k».proof.Proof.Gen.Side
public import proofs.«01_k».proof.Proof.Gen.Side.Frame
public import proofs.«01_k».proof.Proof.Gen.SideIdeal
public import proofs.«01_k».proof.Proof.Gen.SideIdeal.Value
public import proofs.«01_k».proof.Proof.Gen.SideRefIdeal.Run
public import proofs.«01_k».proof.Proof.Gen.Norm
public import proofs.«01_k».proof.Proof.Gen.Norm.Frame
public import proofs.«01_k».proof.Proof.Gen.NormIdeal
public import proofs.«01_k».proof.Proof.Gen.NormIdeal.Value
public import proofs.«01_k».proof.Proof.Gen.NormRefIdeal.Run
public import proofs.«01_k».proof.Proof.Gen.YPrompt
public import proofs.«01_k».proof.Proof.Gen.YPrompt.Frame
public import proofs.«01_k».proof.Proof.Gen.YPromptIdeal
public import proofs.«01_k».proof.Proof.Gen.YPromptIdeal.Value
public import proofs.«01_k».proof.Proof.Gen.YPromptRefIdeal.Run
public import proofs.«01_k».proof.Proof.Gen.YSample
public import proofs.«01_k».proof.Proof.Gen.YSample.Frame
public import proofs.«01_k».proof.Proof.Gen.YSampleIdeal
public import proofs.«01_k».proof.Proof.Gen.YSampleIdeal.Value
public import proofs.«01_k».proof.Proof.Gen.YSampleRefIdeal.Run
public import proofs.«01_k».proof.Proof.Gen.Out.Frame
public import proofs.«01_k».proof.Proof.Gen.DownIdeal.Value
public import proofs.«01_k».proof.Proof.Gen.OutIdeal.Value
public import proofs.«01_k».proof.Proof.Gen.DownRefIdeal.Run
public import proofs.«01_k».proof.Proof.Gen.OutRefIdeal.Run
public import proofs.«01_k».proof.Proof.Gen.GateUp
public import proofs.«01_k».proof.Proof.Gen.GateUpIdeal
public import proofs.«01_k».proof.Proof.Gen.GateUpRefIdeal.Run
public import proofs.«01_k».proof.Proof.PromptClaim
public import proofs.«01_k».proof.Proof.GateBits
public import proofs.«01_k».proof.Proof.GateClaim
public import proofs.«01_k».proof.Proof.DownClaim
public import proofs.«01_k».proof.Proof.OutClaim
public import proofs.«01_k».proof.Proof.QkvClaim
public import proofs.«01_k».proof.Proof.SideClaim
public import proofs.«01_k».proof.Proof.NormClaim
public import Idealize.ShloMosaic.Lib.Quiescent
public import Idealize.ShloMosaic.Adequacy
public import Idealize.ShloMosaic.Init

@[expose] public section

noncomputable section

namespace Cert.Proof

open Idealize.ShloMosaic Idealize.SL.Sem

theorem prompt_reference_frame : Cert.quiescent_SwaPromptRefIdeal := fun m ρ _ =>
  (θ_run Cert.SwaPromptRefIdeal.defs _ _).mono (fun r h => ⟨fun c => (h c).2, Idealize.ShloMosaic.sem_eq_zero_of_no_sems (by decide) r.2⟩)
    (Cert.SwaPromptRefIdeal.Value.run (F := Ideal) m ρ)

theorem prompt_preserves : Cert.preserves_SwaPrompt_SwaPromptIdeal :=
  ⟨IdealRules.named_const.statement Cert.SwaPromptIdeal.κ "scale_log2e" .f32 0x3E0293EE#32 _ rfl,
    IdealRules.named_const.statement Cert.SwaPromptIdeal.κ "log2e" .f32 0x3FB8AA3B#32 _ rfl⟩

theorem gate_reference_frame : Cert.quiescent_GateUpRefIdeal := fun m ρ _ =>
  (θ_run Cert.GateUpRefIdeal.defs _ _).mono (fun r h => ⟨fun c => (h c).2.2, Idealize.ShloMosaic.sem_eq_zero_of_no_sems (by decide) r.2⟩)
    (Cert.GateUpRefIdeal.Value.run (F := Ideal) m ρ)

theorem down_reference_frame : Cert.quiescent_DownRefIdeal := fun m ρ _ =>
  (θ_run Cert.DownRefIdeal.defs _ _).mono (fun r h => ⟨fun c => (h c).2, Idealize.ShloMosaic.sem_eq_zero_of_no_sems (by decide) r.2⟩)
    (Cert.DownRefIdeal.Value.run (F := Ideal) m ρ)

theorem out_reference_frame : Cert.quiescent_OutRefIdeal := fun m ρ _ =>
  (θ_run Cert.OutRefIdeal.defs _ _).mono (fun r h => ⟨fun c => (h c).2, Idealize.ShloMosaic.sem_eq_zero_of_no_sems (by decide) r.2⟩)
    (Cert.OutRefIdeal.Value.run (F := Ideal) m ρ)

theorem qkv_reference_frame : Cert.quiescent_QkvRefIdeal := fun m ρ _ =>
  (θ_run Cert.QkvRefIdeal.defs _ _).mono (fun r h => ⟨fun c => (h c).2, Idealize.ShloMosaic.sem_eq_zero_of_no_sems (by decide) r.2⟩)
    (Cert.QkvRefIdeal.Value.run (F := Ideal) m ρ)

theorem side_reference_frame : Cert.quiescent_SideRefIdeal := fun m ρ _ =>
  (θ_run Cert.SideRefIdeal.defs _ _).mono (fun r h => ⟨fun c => (h c).2.2.2, Idealize.ShloMosaic.sem_eq_zero_of_no_sems (by decide) r.2⟩)
    (Cert.SideRefIdeal.Value.run (F := Ideal) m ρ)

theorem norm_reference_frame : Cert.quiescent_NormRefIdeal := fun m ρ _ =>
  (θ_run Cert.NormRefIdeal.defs _ _).mono (fun r h => ⟨fun c => (h c).2, Idealize.ShloMosaic.sem_eq_zero_of_no_sems (by decide) r.2⟩)
    (Cert.NormRefIdeal.Value.run (F := Ideal) m ρ)

theorem y_prompt_reference_frame : Cert.quiescent_YPromptRefIdeal := fun m ρ _ =>
  (θ_run Cert.YPromptRefIdeal.defs _ _).mono (fun r h => ⟨fun c => (h c).2, Idealize.ShloMosaic.sem_eq_zero_of_no_sems (by decide) r.2⟩)
    (Cert.YPromptRefIdeal.Value.run (F := Ideal) m ρ)

theorem y_sample_reference_frame : Cert.quiescent_YSampleRefIdeal := fun m ρ _ =>
  (θ_run Cert.YSampleRefIdeal.defs _ _).mono (fun r h => ⟨fun c => (h c).2, Idealize.ShloMosaic.sem_eq_zero_of_no_sems (by decide) r.2⟩)
    (Cert.YSampleRefIdeal.Value.run (F := Ideal) m ρ)

theorem claim : Cert.Claim := ⟨Cert.SwaPrompt.Gen.facts, Cert.SwaPromptIdeal.Gen.facts, Cert.SwaPromptRefIdeal.Gen.facts,
  Cert.GateUp.Gen.facts, Cert.GateUpIdeal.Gen.facts, Cert.GateUpRefIdeal.Gen.facts,
  Cert.Down.Gen.facts, Cert.DownIdeal.Gen.facts, Cert.DownRefIdeal.Gen.facts, Cert.Out.Gen.facts, Cert.OutIdeal.Gen.facts, Cert.OutRefIdeal.Gen.facts,
  Cert.Qkv.Gen.facts, Cert.QkvIdeal.Gen.facts, Cert.QkvRefIdeal.Gen.facts, Cert.Side.Gen.facts, Cert.SideIdeal.Gen.facts, Cert.SideRefIdeal.Gen.facts,
  Cert.Norm.Gen.facts, Cert.NormIdeal.Gen.facts, Cert.NormRefIdeal.Gen.facts,
  Cert.YPrompt.Gen.facts, Cert.YPromptIdeal.Gen.facts, Cert.YPromptRefIdeal.Gen.facts,
  Cert.YSample.Gen.facts, Cert.YSampleIdeal.Gen.facts, Cert.YSampleRefIdeal.Gen.facts,
  Cert.Pre_prompt_finite.Gen.facts,
  fun m ρ _ => Cert.SwaPrompt.Gen.frame m ρ,
  fun m ρ _ => Cert.SwaPromptIdeal.Gen.frame m ρ,
  fun m ρ _ => Cert.SwaPromptIdeal.Gen.frame m ρ,
  prompt_reference_frame,
  fun m ρ _ => prompt_reference_frame m ρ trivial,
  Cert.GateUp.Hand.frame,
  fun m ρ _ => Cert.GateUpIdeal.Hand.frame m ρ,
  gate_reference_frame,
  fun m ρ _ => Cert.Down.Gen.frame m ρ,
  fun m ρ _ => Cert.DownIdeal.Gen.frame m ρ,
  down_reference_frame,
  fun m ρ _ => Cert.Out.Gen.frame m ρ,
  fun m ρ _ => Cert.OutIdeal.Gen.frame m ρ,
  out_reference_frame,
  fun m ρ _ => Cert.Qkv.Gen.frame m ρ,
  fun m ρ _ => Cert.QkvIdeal.Gen.frame m ρ,
  qkv_reference_frame,
  fun m ρ _ => Cert.Side.Gen.frame m ρ,
  fun m ρ _ => Cert.SideIdeal.Gen.frame m ρ,
  side_reference_frame,
  fun m ρ _ => Cert.Norm.Gen.frame m ρ,
  fun m ρ _ => Cert.NormIdeal.Gen.frame m ρ,
  norm_reference_frame,
  fun m ρ _ => Cert.YPrompt.Gen.frame m ρ,
  fun m ρ _ => Cert.YPromptIdeal.Gen.frame m ρ,
  y_prompt_reference_frame,
  fun m ρ _ => Cert.YSample.Gen.frame m ρ,
  fun m ρ _ => Cert.YSampleIdeal.Gen.frame m ρ,
  y_sample_reference_frame,
  prompt_preserves,
  Cert.PromptClaim.claim,
  trivial,
  Cert.GateUpIdeal.Value.claim,
  trivial,
  Cert.DownIdeal.Value.claim,
  trivial,
  Cert.OutIdeal.Value.claim,
  trivial,
  Cert.QkvIdeal.Value.claim,
  trivial,
  Cert.SideIdeal.Value.claim,
  trivial,
  Cert.NormIdeal.Value.claim,
  trivial,
  Cert.YPromptIdeal.Value.claim,
  trivial,
  Cert.YSampleIdeal.Value.claim⟩

end Cert.Proof

end
